-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S_ : Shape := ⟨0, ![]⟩
abbrev S512x256 : Shape := ⟨2, ![512, 256]⟩
abbrev S2x256x256 : Shape := ⟨3, ![2, 256, 256]⟩
abbrev S2x4x256x256 : Shape := ⟨4, ![2, 4, 256, 256]⟩
abbrev S256x256 : Shape := ⟨2, ![256, 256]⟩
abbrev S1x1x256x256 : Shape := ⟨4, ![1, 1, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S256x512 : Shape := ⟨2, ![256, 512]⟩
abbrev S32x64x128 : Shape := ⟨3, ![32, 64, 128]⟩
abbrev S32 : Shape := ⟨1, ![32]⟩
abbrev S1 : Shape := ⟨1, ![1]⟩
abbrev S1x64x128 : Shape := ⟨3, ![1, 64, 128]⟩
abbrev S31x64x128 : Shape := ⟨3, ![31, 64, 128]⟩
abbrev S64x128 : Shape := ⟨2, ![64, 128]⟩

abbrev nBuf : Space → Nat
  | .hbm => 73
  | .vmem => 4
  | .smem => 0
  | _ => 0

abbrev bufTy : (tb : Table) → Fin (tcTables nBuf tb) → BufTy
  | .hbm, ⟨0, _⟩ => ⟨S2x256x512, .bf16⟩
  | .hbm, ⟨1, _⟩ => ⟨S512x8192, .bf16⟩
  | .hbm, ⟨2, _⟩ => ⟨S2x256x4x64, .bf16⟩
  | .hbm, ⟨3, _⟩ => ⟨S2x256x4x64, .bf16⟩
  | .hbm, ⟨4, _⟩ => ⟨S8192x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S2x256x256, .f32⟩
  | .hbm, ⟨21, _⟩ => ⟨S2x256x4x64, .f32⟩
  | .hbm, ⟨22, _⟩ => ⟨S2x256x4x64, .bf16⟩
  | .hbm, ⟨23, _⟩ => ⟨S2x4x256x256, .f32⟩
  | .hbm, ⟨24, _⟩ => ⟨S_, .f32⟩
  | .hbm, ⟨25, _⟩ => ⟨S2x4x256x256, .f32⟩
  | .hbm, ⟨26, _⟩ => ⟨S2x4x256x256, .f32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i1⟩
  | .hbm, ⟨34, _⟩ => ⟨S1x1x256x256, .i1⟩
  | .hbm, ⟨35, _⟩ => ⟨S_, .f32⟩
  | .hbm, ⟨36, _⟩ => ⟨S_, .f32⟩
  | .hbm, ⟨37, _⟩ => ⟨S2x4x256x256, .i1⟩
  | .hbm, ⟨38, _⟩ => ⟨S2x4x256x256, .f32⟩
  | .hbm, ⟨39, _⟩ => ⟨S2x4x256x256, .f32⟩
  | .hbm, ⟨40, _⟩ => ⟨S_, .f32⟩
  | .hbm, ⟨41, _⟩ => ⟨S2x4x256, .f32⟩
  | .hbm, ⟨42, _⟩ => ⟨S_, .f32⟩
  | .hbm, ⟨43, _⟩ => ⟨S2x4x256, .f32⟩
  | .hbm, ⟨44, _⟩ => ⟨S2x4x256, .f32⟩
  | .hbm, ⟨45, _⟩ => ⟨S2x4x256x1, .f32⟩
  | .hbm, ⟨46, _⟩ => ⟨S2x4x256x256, .f32⟩
  | .hbm, ⟨47, _⟩ => ⟨S2x4x256x256, .f32⟩
  | .hbm, ⟨48, _⟩ => ⟨S2x4x256x256, .f32⟩
  | .hbm, ⟨49, _⟩ => ⟨S_, .f32⟩
  | .hbm, ⟨50, _⟩ => ⟨S2x4x256, .f32⟩
  | .hbm, ⟨51, _⟩ => ⟨S2x4x256x1, .f32⟩
  | .hbm, ⟨52, _⟩ => ⟨S2x4x256x256, .f32⟩
  | .hbm, ⟨53, _⟩ => ⟨S2x4x256x256, .f32⟩
  | .hbm, ⟨54, _⟩ => ⟨S2x4x256x256, .bf16⟩
  | .hbm, ⟨55, _⟩ => ⟨S2x4x64x256, .f32⟩
  | .hbm, ⟨56, _⟩ => ⟨S2x256x4x64, .f32⟩
  | .hbm, ⟨57, _⟩ => ⟨S2x256x256, .f32⟩
  | .hbm, ⟨58, _⟩ => ⟨S2x256x256, .bf16⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S256x512, .bf16⟩
  | .hbm, ⟨68, _⟩ => ⟨S2x256x512, .f32⟩
  | .hbm, ⟨69, _⟩ => ⟨S32x64x128, .f32⟩
  | .hbm, ⟨70, _⟩ => ⟨S32x64x128, .bf16⟩
  | .hbm, ⟨71, _⟩ => ⟨S2x256x512, .bf16⟩
  | .hbm, ⟨72, _⟩ => ⟨S2x256x512, .f32⟩
  | .local _ .vmem, ⟨0, _⟩ => ⟨S32x64x128, .f32⟩
  | .local _ .vmem, ⟨1, _⟩ => ⟨S32x64x128, .bf16⟩
  | .local _ .vmem, ⟨2, _⟩ => ⟨S32x64x128, .bf16⟩
  | .local _ .vmem, ⟨3, _⟩ => ⟨S32x64x128, .bf16⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_c_12 : Ref sig .tc := ⟨.hbm, 63, rfl⟩
abbrev main_v42 : Ref sig .tc := ⟨.hbm, 64, rfl⟩
abbrev main_v43 : Ref sig .tc := ⟨.hbm, 65, rfl⟩
abbrev main_c_13 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_285 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v413 : BitVec 32 := Scalar.addi v2 c1_i32_285
  let c32_i32_286 : BitVec 32 := 32#32
  let c0_i32_287 : BitVec 32 := 0#32
  let v414 : BitVec 1 := Scalar.cmpi .eq c32_i32_286 c0_i32_287
  let c1_i32_288 : BitVec 32 := 1#32
  let v415 : BitVec 32 := Scalar.select v414 c1_i32_288 c32_i32_286
  let v416 : BitVec 32 := Scalar.remsi v413 v415
  let c0_i32_290 : BitVec 32 := 0#32
  let v418 : BitVec 1 := Scalar.cmpi .slt v416 c0_i32_290
  let c0_i32_291 : BitVec 32 := 0#32
  let v419 : BitVec 1 := Scalar.cmpi .slt v415 c0_i32_291
  let v420 : BitVec 1 := Scalar.xori v418 v419
  let c0_i32_289 : BitVec 32 := 0#32
  let v417 : BitVec 1 := Scalar.cmpi .ne v416 c0_i32_289
  let v421 : BitVec 1 := Scalar.andi v420 v417
  let v422 : BitVec 32 := Scalar.addi v416 v415
  let v423 : BitVec 32 := Scalar.select v421 v422 v416
  let c0_i32_299 : BitVec 32 := 0#32
  let c0_i32_300 : BitVec 32 := 0#32
  ![v423.toNat, 0, 0]
def k0_dev32 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_285 : BitVec 32 := 1#32
  let v413 : BitVec 32 := Scalar.addi v2 c1_i32_285
  let c32_i32_286 : BitVec 32 := 32#32
  let c0_i32_287 : BitVec 32 := 0#32
  let v414 : BitVec 1 := Scalar.cmpi .eq c32_i32_286 c0_i32_287
  let c1_i32_288 : BitVec 32 := 1#32
  let v415 : BitVec 32 := Scalar.select v414 c1_i32_288 c32_i32_286
  let v416 : BitVec 32 := Scalar.remsi v413 v415
  let c0_i32_290 : BitVec 32 := 0#32
  let v418 : BitVec 1 := Scalar.cmpi .slt v416 c0_i32_290
  let c0_i32_291 : BitVec 32 := 0#32
  let v419 : BitVec 1 := Scalar.cmpi .slt v415 c0_i32_291
  let v420 : BitVec 1 := Scalar.xori v418 v419
  let c0_i32_289 : BitVec 32 := 0#32
  let v417 : BitVec 1 := Scalar.cmpi .ne v416 c0_i32_289
  let v421 : BitVec 1 := Scalar.andi v420 v417
  let v422 : BitVec 32 := Scalar.addi v416 v415
  let v423 : BitVec 32 := Scalar.select v421 v422 v416
  let c1_i32_294 : BitVec 32 := 1#32
  let v424 : BitVec 32 := Scalar.muli v423 c1_i32_294
  let v425 : BitVec 32 := Scalar.addi c0_i32_295 v424
  v425.toNat
def k0_dev33 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_301 : BitVec 32 := 2#32
  let v432 : BitVec 32 := Scalar.addi v2 c2_i32_301
  let c32_i32_302 : BitVec 32 := 32#32
  let c0_i32_303 : BitVec 32 := 0#32
  let v433 : BitVec 1 := Scalar.cmpi .eq c32_i32_302 c0_i32_303
  let c1_i32_304 : BitVec 32 := 1#32
  let v434 : BitVec 32 := Scalar.select v433 c1_i32_304 c32_i32_302
  let v435 : BitVec 32 := Scalar.remsi v432 v434
  let c0_i32_306 : BitVec 32 := 0#32
  let v437 : BitVec 1 := Scalar.cmpi .slt v435 c0_i32_306
  let c0_i32_307 : BitVec 32 := 0#32
  let v438 : BitVec 1 := Scalar.cmpi .slt v434 c0_i32_307
  let v439 : BitVec 1 := Scalar.xori v437 v438
  let c0_i32_305 : BitVec 32 := 0#32
  let v436 : BitVec 1 := Scalar.cmpi .ne v435 c0_i32_305
  let v440 : BitVec 1 := Scalar.andi v439 v436
  let v441 : BitVec 32 := Scalar.addi v435 v434
  let v442 : BitVec 32 := Scalar.select v440 v441 v435
  let c1_i32_310 : BitVec 32 := 1#32
  let v443 : BitVec 32 := Scalar.muli v442 c1_i32_310
  let v444 : BitVec 32 := Scalar.addi c0_i32_311 v443
  v444.toNat
def k0_dev34 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_317 : BitVec 32 := 3#32
  let v451 : BitVec 32 := Scalar.addi v2 c3_i32_317
  let c32_i32_318 : BitVec 32 := 32#32
  let c0_i32_319 : BitVec 32 := 0#32
  let v452 : BitVec 1 := Scalar.cmpi .eq c32_i32_318 c0_i32_319
  let c1_i32_320 : BitVec 32 := 1#32
  let v453 : BitVec 32 := Scalar.select v452 c1_i32_320 c32_i32_318
  let v454 : BitVec 32 := Scalar.remsi v451 v453
  let c0_i32_322 : BitVec 32 := 0#32
  let v456 : BitVec 1 := Scalar.cmpi .slt v454 c0_i32_322
  let c0_i32_323 : BitVec 32 := 0#32
  let v457 : BitVec 1 := Scalar.cmpi .slt v453 c0_i32_323
  let v458 : BitVec 1 := Scalar.xori v456 v457
  let c0_i32_321 : BitVec 32 := 0#32
  let v455 : BitVec 1 := Scalar.cmpi .ne v454 c0_i32_321
  let v459 : BitVec 1 := Scalar.andi v458 v455
  let v460 : BitVec 32 := Scalar.addi v454 v453
  let v461 : BitVec 32 := Scalar.select v459 v460 v454
  let c1_i32_326 : BitVec 32 := 1#32
  let v462 : BitVec 32 := Scalar.muli v461 c1_i32_326
  let v463 : BitVec 32 := Scalar.addi c0_i32_327 v462
  v463.toNat
def k0_dev35 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_333 : BitVec 32 := 4#32
  let v470 : BitVec 32 := Scalar.addi v2 c4_i32_333
  let c32_i32_334 : BitVec 32 := 32#32
  let c0_i32_335 : BitVec 32 := 0#32
  let v471 : BitVec 1 := Scalar.cmpi .eq c32_i32_334 c0_i32_335
  let c1_i32_336 : BitVec 32 := 1#32
  let v472 : BitVec 32 := Scalar.select v471 c1_i32_336 c32_i32_334
  let v473 : BitVec 32 := Scalar.remsi v470 v472
  let c0_i32_338 : BitVec 32 := 0#32
  let v475 : BitVec 1 := Scalar.cmpi .slt v473 c0_i32_338
  let c0_i32_339 : BitVec 32 := 0#32
  let v476 : BitVec 1 := Scalar.cmpi .slt v472 c0_i32_339
  let v477 : BitVec 1 := Scalar.xori v475 v476
  let c0_i32_337 : BitVec 32 := 0#32
  let v474 : BitVec 1 := Scalar.cmpi .ne v473 c0_i32_337
  let v478 : BitVec 1 := Scalar.andi v477 v474
  let v479 : BitVec 32 := Scalar.addi v473 v472
  let v480 : BitVec 32 := Scalar.select v478 v479 v473
  let c1_i32_342 : BitVec 32 := 1#32
  let v481 : BitVec 32 := Scalar.muli v480 c1_i32_342
  let v482 : BitVec 32 := Scalar.addi c0_i32_343 v481
  v482.toNat
def k0_dev36 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_349 : BitVec 32 := 5#32
  let v489 : BitVec 32 := Scalar.addi v2 c5_i32_349
  let c32_i32_350 : BitVec 32 := 32#32
  let c0_i32_351 : BitVec 32 := 0#32
  let v490 : BitVec 1 := Scalar.cmpi .eq c32_i32_350 c0_i32_351
  let c1_i32_352 : BitVec 32 := 1#32
  let v491 : BitVec 32 := Scalar.select v490 c1_i32_352 c32_i32_350
  let v492 : BitVec 32 := Scalar.remsi v489 v491
  let c0_i32_354 : BitVec 32 := 0#32
  let v494 : BitVec 1 := Scalar.cmpi .slt v492 c0_i32_354
  let c0_i32_355 : BitVec 32 := 0#32
  let v495 : BitVec 1 := Scalar.cmpi .slt v491 c0_i32_355
  let v496 : BitVec 1 := Scalar.xori v494 v495
  let c0_i32_353 : BitVec 32 := 0#32
  let v493 : BitVec 1 := Scalar.cmpi .ne v492 c0_i32_353
  let v497 : BitVec 1 := Scalar.andi v496 v493
  let v498 : BitVec 32 := Scalar.addi v492 v491
  let v499 : BitVec 32 := Scalar.select v497 v498 v492
  let c1_i32_358 : BitVec 32 := 1#32
  let v500 : BitVec 32 := Scalar.muli v499 c1_i32_358
  let v501 : BitVec 32 := Scalar.addi c0_i32_359 v500
  v501.toNat
def k0_dev37 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_365 : BitVec 32 := 6#32
  let v508 : BitVec 32 := Scalar.addi v2 c6_i32_365
  let c32_i32_366 : BitVec 32 := 32#32
  let c0_i32_367 : BitVec 32 := 0#32
  let v509 : BitVec 1 := Scalar.cmpi .eq c32_i32_366 c0_i32_367
  let c1_i32_368 : BitVec 32 := 1#32
  let v510 : BitVec 32 := Scalar.select v509 c1_i32_368 c32_i32_366
  let v511 : BitVec 32 := Scalar.remsi v508 v510
  let c0_i32_370 : BitVec 32 := 0#32
  let v513 : BitVec 1 := Scalar.cmpi .slt v511 c0_i32_370
  let c0_i32_371 : BitVec 32 := 0#32
  let v514 : BitVec 1 := Scalar.cmpi .slt v510 c0_i32_371
  let v515 : BitVec 1 := Scalar.xori v513 v514
  let c0_i32_369 : BitVec 32 := 0#32
  let v512 : BitVec 1 := Scalar.cmpi .ne v511 c0_i32_369
  let v516 : BitVec 1 := Scalar.andi v515 v512
  let v517 : BitVec 32 := Scalar.addi v511 v510
  let v518 : BitVec 32 := Scalar.select v516 v517 v511
  let c1_i32_374 : BitVec 32 := 1#32
  let v519 : BitVec 32 := Scalar.muli v518 c1_i32_374
  let v520 : BitVec 32 := Scalar.addi c0_i32_375 v519
  v520.toNat
def k0_dev38 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_381 : BitVec 32 := 7#32
  let v527 : BitVec 32 := Scalar.addi v2 c7_i32_381
  let c32_i32_382 : BitVec 32 := 32#32
  let c0_i32_383 : BitVec 32 := 0#32
  let v528 : BitVec 1 := Scalar.cmpi .eq c32_i32_382 c0_i32_383
  let c1_i32_384 : BitVec 32 := 1#32
  let v529 : BitVec 32 := Scalar.select v528 c1_i32_384 c32_i32_382
  let v530 : BitVec 32 := Scalar.remsi v527 v529
  let c0_i32_386 : BitVec 32 := 0#32
  let v532 : BitVec 1 := Scalar.cmpi .slt v530 c0_i32_386
  let c0_i32_387 : BitVec 32 := 0#32
  let v533 : BitVec 1 := Scalar.cmpi .slt v529 c0_i32_387
  let v534 : BitVec 1 := Scalar.xori v532 v533
  let c0_i32_385 : BitVec 32 := 0#32
  let v531 : BitVec 1 := Scalar.cmpi .ne v530 c0_i32_385
  let v535 : BitVec 1 := Scalar.andi v534 v531
  let v536 : BitVec 32 := Scalar.addi v530 v529
  let v537 : BitVec 32 := Scalar.select v535 v536 v530
  let c1_i32_390 : BitVec 32 := 1#32
  let v538 : BitVec 32 := Scalar.muli v537 c1_i32_390
  let v539 : BitVec 32 := Scalar.addi c0_i32_391 v538
  v539.toNat
def k0_dev39 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_397 : BitVec 32 := 8#32
  let v546 : BitVec 32 := Scalar.addi v2 c8_i32_397
  let c32_i32_398 : BitVec 32 := 32#32
  let c0_i32_399 : BitVec 32 := 0#32
  let v547 : BitVec 1 := Scalar.cmpi .eq c32_i32_398 c0_i32_399
  let c1_i32_400 : BitVec 32 := 1#32
  let v548 : BitVec 32 := Scalar.select v547 c1_i32_400 c32_i32_398
  let v549 : BitVec 32 := Scalar.remsi v546 v548
  let c0_i32_402 : BitVec 32 := 0#32
  let v551 : BitVec 1 := Scalar.cmpi .slt v549 c0_i32_402
  let c0_i32_403 : BitVec 32 := 0#32
  let v552 : BitVec 1 := Scalar.cmpi .slt v548 c0_i32_403
  let v553 : BitVec 1 := Scalar.xori v551 v552
  let c0_i32_401 : BitVec 32 := 0#32
  let v550 : BitVec 1 := Scalar.cmpi .ne v549 c0_i32_401
  let v554 : BitVec 1 := Scalar.andi v553 v550
  let v555 : BitVec 32 := Scalar.addi v549 v548
  let v556 : BitVec 32 := Scalar.select v554 v555 v549
  let c1_i32_406 : BitVec 32 := 1#32
  let v557 : BitVec 32 := Scalar.muli v556 c1_i32_406
  let v558 : BitVec 32 := Scalar.addi c0_i32_407 v557
  v558.toNat
def k0_dev40 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_413 : BitVec 32 := 9#32
  let v565 : BitVec 32 := Scalar.addi v2 c9_i32_413
  let c32_i32_414 : BitVec 32 := 32#32
  let c0_i32_415 : BitVec 32 := 0#32
  let v566 : BitVec 1 := Scalar.cmpi .eq c32_i32_414 c0_i32_415
  let c1_i32_416 : BitVec 32 := 1#32
  let v567 : BitVec 32 := Scalar.select v566 c1_i32_416 c32_i32_414
  let v568 : BitVec 32 := Scalar.remsi v565 v567
  let c0_i32_418 : BitVec 32 := 0#32
  let v570 : BitVec 1 := Scalar.cmpi .slt v568 c0_i32_418
  let c0_i32_419 : BitVec 32 := 0#32
  let v571 : BitVec 1 := Scalar.cmpi .slt v567 c0_i32_419
  let v572 : BitVec 1 := Scalar.xori v570 v571
  let c0_i32_417 : BitVec 32 := 0#32
  let v569 : BitVec 1 := Scalar.cmpi .ne v568 c0_i32_417
  let v573 : BitVec 1 := Scalar.andi v572 v569
  let v574 : BitVec 32 := Scalar.addi v568 v567
  let v575 : BitVec 32 := Scalar.select v573 v574 v568
  let c1_i32_422 : BitVec 32 := 1#32
  let v576 : BitVec 32 := Scalar.muli v575 c1_i32_422
  let v577 : BitVec 32 := Scalar.addi c0_i32_423 v576
  v577.toNat
def k0_dev41 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_429 : BitVec 32 := 10#32
  let v584 : BitVec 32 := Scalar.addi v2 c10_i32_429
  let c32_i32_430 : BitVec 32 := 32#32
  let c0_i32_431 : BitVec 32 := 0#32
  let v585 : BitVec 1 := Scalar.cmpi .eq c32_i32_430 c0_i32_431
  let c1_i32_432 : BitVec 32 := 1#32
  let v586 : BitVec 32 := Scalar.select v585 c1_i32_432 c32_i32_430
  let v587 : BitVec 32 := Scalar.remsi v584 v586
  let c0_i32_434 : BitVec 32 := 0#32
  let v589 : BitVec 1 := Scalar.cmpi .slt v587 c0_i32_434
  let c0_i32_435 : BitVec 32 := 0#32
  let v590 : BitVec 1 := Scalar.cmpi .slt v586 c0_i32_435
  let v591 : BitVec 1 := Scalar.xori v589 v590
  let c0_i32_433 : BitVec 32 := 0#32
  let v588 : BitVec 1 := Scalar.cmpi .ne v587 c0_i32_433
  let v592 : BitVec 1 := Scalar.andi v591 v588
  let v593 : BitVec 32 := Scalar.addi v587 v586
  let v594 : BitVec 32 := Scalar.select v592 v593 v587
  let c1_i32_438 : BitVec 32 := 1#32
  let v595 : BitVec 32 := Scalar.muli v594 c1_i32_438
  let v596 : BitVec 32 := Scalar.addi c0_i32_439 v595
  v596.toNat
def k0_dev42 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_445 : BitVec 32 := 11#32
  let v603 : BitVec 32 := Scalar.addi v2 c11_i32_445
  let c32_i32_446 : BitVec 32 := 32#32
  let c0_i32_447 : BitVec 32 := 0#32
  let v604 : BitVec 1 := Scalar.cmpi .eq c32_i32_446 c0_i32_447
  let c1_i32_448 : BitVec 32 := 1#32
  let v605 : BitVec 32 := Scalar.select v604 c1_i32_448 c32_i32_446
  let v606 : BitVec 32 := Scalar.remsi v603 v605
  let c0_i32_450 : BitVec 32 := 0#32
  let v608 : BitVec 1 := Scalar.cmpi .slt v606 c0_i32_450
  let c0_i32_451 : BitVec 32 := 0#32
  let v609 : BitVec 1 := Scalar.cmpi .slt v605 c0_i32_451
  let v610 : BitVec 1 := Scalar.xori v608 v609
  let c0_i32_449 : BitVec 32 := 0#32
  let v607 : BitVec 1 := Scalar.cmpi .ne v606 c0_i32_449
  let v611 : BitVec 1 := Scalar.andi v610 v607
  let v612 : BitVec 32 := Scalar.addi v606 v605
  let v613 : BitVec 32 := Scalar.select v611 v612 v606
  let c1_i32_454 : BitVec 32 := 1#32
  let v614 : BitVec 32 := Scalar.muli v613 c1_i32_454
  let v615 : BitVec 32 := Scalar.addi c0_i32_455 v614
  v615.toNat
def k0_dev43 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_461 : BitVec 32 := 12#32
  let v622 : BitVec 32 := Scalar.addi v2 c12_i32_461
  let c32_i32_462 : BitVec 32 := 32#32
  let c0_i32_463 : BitVec 32 := 0#32
  let v623 : BitVec 1 := Scalar.cmpi .eq c32_i32_462 c0_i32_463
  let c1_i32_464 : BitVec 32 := 1#32
  let v624 : BitVec 32 := Scalar.select v623 c1_i32_464 c32_i32_462
  let v625 : BitVec 32 := Scalar.remsi v622 v624
  let c0_i32_466 : BitVec 32 := 0#32
  let v627 : BitVec 1 := Scalar.cmpi .slt v625 c0_i32_466
  let c0_i32_467 : BitVec 32 := 0#32
  let v628 : BitVec 1 := Scalar.cmpi .slt v624 c0_i32_467
  let v629 : BitVec 1 := Scalar.xori v627 v628
  let c0_i32_465 : BitVec 32 := 0#32
  let v626 : BitVec 1 := Scalar.cmpi .ne v625 c0_i32_465
  let v630 : BitVec 1 := Scalar.andi v629 v626
  let v631 : BitVec 32 := Scalar.addi v625 v624
  let v632 : BitVec 32 := Scalar.select v630 v631 v625
  let c1_i32_470 : BitVec 32 := 1#32
  let v633 : BitVec 32 := Scalar.muli v632 c1_i32_470
  let v634 : BitVec 32 := Scalar.addi c0_i32_471 v633
  v634.toNat
def k0_dev44 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_477 : BitVec 32 := 13#32
  let v641 : BitVec 32 := Scalar.addi v2 c13_i32_477
  let c32_i32_478 : BitVec 32 := 32#32
  let c0_i32_479 : BitVec 32 := 0#32
  let v642 : BitVec 1 := Scalar.cmpi .eq c32_i32_478 c0_i32_479
  let c1_i32_480 : BitVec 32 := 1#32
  let v643 : BitVec 32 := Scalar.select v642 c1_i32_480 c32_i32_478
  let v644 : BitVec 32 := Scalar.remsi v641 v643
  let c0_i32_482 : BitVec 32 := 0#32
  let v646 : BitVec 1 := Scalar.cmpi .slt v644 c0_i32_482
  let c0_i32_483 : BitVec 32 := 0#32
  let v647 : BitVec 1 := Scalar.cmpi .slt v643 c0_i32_483
  let v648 : BitVec 1 := Scalar.xori v646 v647
  let c0_i32_481 : BitVec 32 := 0#32
  let v645 : BitVec 1 := Scalar.cmpi .ne v644 c0_i32_481
  let v649 : BitVec 1 := Scalar.andi v648 v645
  let v650 : BitVec 32 := Scalar.addi v644 v643
  let v651 : BitVec 32 := Scalar.select v649 v650 v644
  let c1_i32_486 : BitVec 32 := 1#32
  let v652 : BitVec 32 := Scalar.muli v651 c1_i32_486
  let v653 : BitVec 32 := Scalar.addi c0_i32_487 v652
  v653.toNat
def k0_dev45 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_493 : BitVec 32 := 14#32
  let v660 : BitVec 32 := Scalar.addi v2 c14_i32_493
  let c32_i32_494 : BitVec 32 := 32#32
  let c0_i32_495 : BitVec 32 := 0#32
  let v661 : BitVec 1 := Scalar.cmpi .eq c32_i32_494 c0_i32_495
  let c1_i32_496 : BitVec 32 := 1#32
  let v662 : BitVec 32 := Scalar.select v661 c1_i32_496 c32_i32_494
  let v663 : BitVec 32 := Scalar.remsi v660 v662
  let c0_i32_498 : BitVec 32 := 0#32
  let v665 : BitVec 1 := Scalar.cmpi .slt v663 c0_i32_498
  let c0_i32_499 : BitVec 32 := 0#32
  let v666 : BitVec 1 := Scalar.cmpi .slt v662 c0_i32_499
  let v667 : BitVec 1 := Scalar.xori v665 v666
  let c0_i32_497 : BitVec 32 := 0#32
  let v664 : BitVec 1 := Scalar.cmpi .ne v663 c0_i32_497
  let v668 : BitVec 1 := Scalar.andi v667 v664
  let v669 : BitVec 32 := Scalar.addi v663 v662
  let v670 : BitVec 32 := Scalar.select v668 v669 v663
  let c1_i32_502 : BitVec 32 := 1#32
  let v671 : BitVec 32 := Scalar.muli v670 c1_i32_502
  let v672 : BitVec 32 := Scalar.addi c0_i32_503 v671
  v672.toNat
def k0_dev46 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_509 : BitVec 32 := 15#32
  let v679 : BitVec 32 := Scalar.addi v2 c15_i32_509
  let c32_i32_510 : BitVec 32 := 32#32
  let c0_i32_511 : BitVec 32 := 0#32
  let v680 : BitVec 1 := Scalar.cmpi .eq c32_i32_510 c0_i32_511
  let c1_i32_512 : BitVec 32 := 1#32
  let v681 : BitVec 32 := Scalar.select v680 c1_i32_512 c32_i32_510
  let v682 : BitVec 32 := Scalar.remsi v679 v681
  let c0_i32_514 : BitVec 32 := 0#32
  let v684 : BitVec 1 := Scalar.cmpi .slt v682 c0_i32_514
  let c0_i32_515 : BitVec 32 := 0#32
  let v685 : BitVec 1 := Scalar.cmpi .slt v681 c0_i32_515
  let v686 : BitVec 1 := Scalar.xori v684 v685
  let c0_i32_513 : BitVec 32 := 0#32
  let v683 : BitVec 1 := Scalar.cmpi .ne v682 c0_i32_513
  let v687 : BitVec 1 := Scalar.andi v686 v683
  let v688 : BitVec 32 := Scalar.addi v682 v681
  let v689 : BitVec 32 := Scalar.select v687 v688 v682
  let c1_i32_518 : BitVec 32 := 1#32
  let v690 : BitVec 32 := Scalar.muli v689 c1_i32_518
  let v691 : BitVec 32 := Scalar.addi c0_i32_519 v690
  v691.toNat
def k0_dev47 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_525 : BitVec 32 := 16#32
  let v698 : BitVec 32 := Scalar.addi v2 c16_i32_525
  let c32_i32_526 : BitVec 32 := 32#32
  let c0_i32_527 : BitVec 32 := 0#32
  let v699 : BitVec 1 := Scalar.cmpi .eq c32_i32_526 c0_i32_527
  let c1_i32_528 : BitVec 32 := 1#32
  let v700 : BitVec 32 := Scalar.select v699 c1_i32_528 c32_i32_526
  let v701 : BitVec 32 := Scalar.remsi v698 v700
  let c0_i32_530 : BitVec 32 := 0#32
  let v703 : BitVec 1 := Scalar.cmpi .slt v701 c0_i32_530
  let c0_i32_531 : BitVec 32 := 0#32
  let v704 : BitVec 1 := Scalar.cmpi .slt v700 c0_i32_531
  let v705 : BitVec 1 := Scalar.xori v703 v704
  let c0_i32_529 : BitVec 32 := 0#32
  let v702 : BitVec 1 := Scalar.cmpi .ne v701 c0_i32_529
  let v706 : BitVec 1 := Scalar.andi v705 v702
  let v707 : BitVec 32 := Scalar.addi v701 v700
  let v708 : BitVec 32 := Scalar.select v706 v707 v701
  let c1_i32_534 : BitVec 32 := 1#32
  let v709 : BitVec 32 := Scalar.muli v708 c1_i32_534
  let v710 : BitVec 32 := Scalar.addi c0_i32_535 v709
  v710.toNat
def k0_dev48 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_541 : BitVec 32 := 17#32
  let v717 : BitVec 32 := Scalar.addi v2 c17_i32_541
  let c32_i32_542 : BitVec 32 := 32#32
  let c0_i32_543 : BitVec 32 := 0#32
  let v718 : BitVec 1 := Scalar.cmpi .eq c32_i32_542 c0_i32_543
  let c1_i32_544 : BitVec 32 := 1#32
  let v719 : BitVec 32 := Scalar.select v718 c1_i32_544 c32_i32_542
  let v720 : BitVec 32 := Scalar.remsi v717 v719
  let c0_i32_546 : BitVec 32 := 0#32
  let v722 : BitVec 1 := Scalar.cmpi .slt v720 c0_i32_546
  let c0_i32_547 : BitVec 32 := 0#32
  let v723 : BitVec 1 := Scalar.cmpi .slt v719 c0_i32_547
  let v724 : BitVec 1 := Scalar.xori v722 v723
  let c0_i32_545 : BitVec 32 := 0#32
  let v721 : BitVec 1 := Scalar.cmpi .ne v720 c0_i32_545
  let v725 : BitVec 1 := Scalar.andi v724 v721
  let v726 : BitVec 32 := Scalar.addi v720 v719
  let v727 : BitVec 32 := Scalar.select v725 v726 v720
  let c1_i32_550 : BitVec 32 := 1#32
  let v728 : BitVec 32 := Scalar.muli v727 c1_i32_550
  let v729 : BitVec 32 := Scalar.addi c0_i32_551 v728
  v729.toNat
def k0_dev49 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_557 : BitVec 32 := 18#32
  let v736 : BitVec 32 := Scalar.addi v2 c18_i32_557
  let c32_i32_558 : BitVec 32 := 32#32
  let c0_i32_559 : BitVec 32 := 0#32
  let v737 : BitVec 1 := Scalar.cmpi .eq c32_i32_558 c0_i32_559
  let c1_i32_560 : BitVec 32 := 1#32
  let v738 : BitVec 32 := Scalar.select v737 c1_i32_560 c32_i32_558
  let v739 : BitVec 32 := Scalar.remsi v736 v738
  let c0_i32_562 : BitVec 32 := 0#32
  let v741 : BitVec 1 := Scalar.cmpi .slt v739 c0_i32_562
  let c0_i32_563 : BitVec 32 := 0#32
  let v742 : BitVec 1 := Scalar.cmpi .slt v738 c0_i32_563
  let v743 : BitVec 1 := Scalar.xori v741 v742
  let c0_i32_561 : BitVec 32 := 0#32
  let v740 : BitVec 1 := Scalar.cmpi .ne v739 c0_i32_561
  let v744 : BitVec 1 := Scalar.andi v743 v740
  let v745 : BitVec 32 := Scalar.addi v739 v738
  let v746 : BitVec 32 := Scalar.select v744 v745 v739
  let c1_i32_566 : BitVec 32 := 1#32
  let v747 : BitVec 32 := Scalar.muli v746 c1_i32_566
  let v748 : BitVec 32 := Scalar.addi c0_i32_567 v747
  v748.toNat
def k0_dev50 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_573 : BitVec 32 := 19#32
  let v755 : BitVec 32 := Scalar.addi v2 c19_i32_573
  let c32_i32_574 : BitVec 32 := 32#32
  let c0_i32_575 : BitVec 32 := 0#32
  let v756 : BitVec 1 := Scalar.cmpi .eq c32_i32_574 c0_i32_575
  let c1_i32_576 : BitVec 32 := 1#32
  let v757 : BitVec 32 := Scalar.select v756 c1_i32_576 c32_i32_574
  let v758 : BitVec 32 := Scalar.remsi v755 v757
  let c0_i32_578 : BitVec 32 := 0#32
  let v760 : BitVec 1 := Scalar.cmpi .slt v758 c0_i32_578
  let c0_i32_579 : BitVec 32 := 0#32
  let v761 : BitVec 1 := Scalar.cmpi .slt v757 c0_i32_579
  let v762 : BitVec 1 := Scalar.xori v760 v761
  let c0_i32_577 : BitVec 32 := 0#32
  let v759 : BitVec 1 := Scalar.cmpi .ne v758 c0_i32_577
  let v763 : BitVec 1 := Scalar.andi v762 v759
  let v764 : BitVec 32 := Scalar.addi v758 v757
  let v765 : BitVec 32 := Scalar.select v763 v764 v758
  let c1_i32_582 : BitVec 32 := 1#32
  let v766 : BitVec 32 := Scalar.muli v765 c1_i32_582
  let v767 : BitVec 32 := Scalar.addi c0_i32_583 v766
  v767.toNat
def k0_dev51 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_589 : BitVec 32 := 20#32
  let v774 : BitVec 32 := Scalar.addi v2 c20_i32_589
  let c32_i32_590 : BitVec 32 := 32#32
  let c0_i32_591 : BitVec 32 := 0#32
  let v775 : BitVec 1 := Scalar.cmpi .eq c32_i32_590 c0_i32_591
  let c1_i32_592 : BitVec 32 := 1#32
  let v776 : BitVec 32 := Scalar.select v775 c1_i32_592 c32_i32_590
  let v777 : BitVec 32 := Scalar.remsi v774 v776
  let c0_i32_594 : BitVec 32 := 0#32
  let v779 : BitVec 1 := Scalar.cmpi .slt v777 c0_i32_594
  let c0_i32_595 : BitVec 32 := 0#32
  let v780 : BitVec 1 := Scalar.cmpi .slt v776 c0_i32_595
  let v781 : BitVec 1 := Scalar.xori v779 v780
  let c0_i32_593 : BitVec 32 := 0#32
  let v778 : BitVec 1 := Scalar.cmpi .ne v777 c0_i32_593
  let v782 : BitVec 1 := Scalar.andi v781 v778
  let v783 : BitVec 32 := Scalar.addi v777 v776
  let v784 : BitVec 32 := Scalar.select v782 v783 v777
  let c1_i32_598 : BitVec 32 := 1#32
  let v785 : BitVec 32 := Scalar.muli v784 c1_i32_598
  let v786 : BitVec 32 := Scalar.addi c0_i32_599 v785
  v786.toNat
def k0_dev52 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_605 : BitVec 32 := 21#32
  let v793 : BitVec 32 := Scalar.addi v2 c21_i32_605
  let c32_i32_606 : BitVec 32 := 32#32
  let c0_i32_607 : BitVec 32 := 0#32
  let v794 : BitVec 1 := Scalar.cmpi .eq c32_i32_606 c0_i32_607
  let c1_i32_608 : BitVec 32 := 1#32
  let v795 : BitVec 32 := Scalar.select v794 c1_i32_608 c32_i32_606
  let v796 : BitVec 32 := Scalar.remsi v793 v795
  let c0_i32_610 : BitVec 32 := 0#32
  let v798 : BitVec 1 := Scalar.cmpi .slt v796 c0_i32_610
  let c0_i32_611 : BitVec 32 := 0#32
  let v799 : BitVec 1 := Scalar.cmpi .slt v795 c0_i32_611
  let v800 : BitVec 1 := Scalar.xori v798 v799
  let c0_i32_609 : BitVec 32 := 0#32
  let v797 : BitVec 1 := Scalar.cmpi .ne v796 c0_i32_609
  let v801 : BitVec 1 := Scalar.andi v800 v797
  let v802 : BitVec 32 := Scalar.addi v796 v795
  let v803 : BitVec 32 := Scalar.select v801 v802 v796
  let c1_i32_614 : BitVec 32 := 1#32
  let v804 : BitVec 32 := Scalar.muli v803 c1_i32_614
  let v805 : BitVec 32 := Scalar.addi c0_i32_615 v804
  v805.toNat
def k0_dev53 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_621 : BitVec 32 := 22#32
  let v812 : BitVec 32 := Scalar.addi v2 c22_i32_621
  let c32_i32_622 : BitVec 32 := 32#32
  let c0_i32_623 : BitVec 32 := 0#32
  let v813 : BitVec 1 := Scalar.cmpi .eq c32_i32_622 c0_i32_623
  let c1_i32_624 : BitVec 32 := 1#32
  let v814 : BitVec 32 := Scalar.select v813 c1_i32_624 c32_i32_622
  let v815 : BitVec 32 := Scalar.remsi v812 v814
  let c0_i32_626 : BitVec 32 := 0#32
  let v817 : BitVec 1 := Scalar.cmpi .slt v815 c0_i32_626
  let c0_i32_627 : BitVec 32 := 0#32
  let v818 : BitVec 1 := Scalar.cmpi .slt v814 c0_i32_627
  let v819 : BitVec 1 := Scalar.xori v817 v818
  let c0_i32_625 : BitVec 32 := 0#32
  let v816 : BitVec 1 := Scalar.cmpi .ne v815 c0_i32_625
  let v820 : BitVec 1 := Scalar.andi v819 v816
  let v821 : BitVec 32 := Scalar.addi v815 v814
  let v822 : BitVec 32 := Scalar.select v820 v821 v815
  let c1_i32_630 : BitVec 32 := 1#32
  let v823 : BitVec 32 := Scalar.muli v822 c1_i32_630
  let v824 : BitVec 32 := Scalar.addi c0_i32_631 v823
  v824.toNat
def k0_dev54 (d0 : Dev nD) : Nat :=
  let c0_i32_647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_637 : BitVec 32 := 23#32
  let v831 : BitVec 32 := Scalar.addi v2 c23_i32_637
  let c32_i32_638 : BitVec 32 := 32#32
  let c0_i32_639 : BitVec 32 := 0#32
  let v832 : BitVec 1 := Scalar.cmpi .eq c32_i32_638 c0_i32_639
  let c1_i32_640 : BitVec 32 := 1#32
  let v833 : BitVec 32 := Scalar.select v832 c1_i32_640 c32_i32_638
  let v834 : BitVec 32 := Scalar.remsi v831 v833
  let c0_i32_642 : BitVec 32 := 0#32
  let v836 : BitVec 1 := Scalar.cmpi .slt v834 c0_i32_642
  let c0_i32_643 : BitVec 32 := 0#32
  let v837 : BitVec 1 := Scalar.cmpi .slt v833 c0_i32_643
  let v838 : BitVec 1 := Scalar.xori v836 v837
  let c0_i32_641 : BitVec 32 := 0#32
  let v835 : BitVec 1 := Scalar.cmpi .ne v834 c0_i32_641
  let v839 : BitVec 1 := Scalar.andi v838 v835
  let v840 : BitVec 32 := Scalar.addi v834 v833
  let v841 : BitVec 32 := Scalar.select v839 v840 v834
  let c1_i32_646 : BitVec 32 := 1#32
  let v842 : BitVec 32 := Scalar.muli v841 c1_i32_646
  let v843 : BitVec 32 := Scalar.addi c0_i32_647 v842
  v843.toNat
def k0_dev55 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_653 : BitVec 32 := 24#32
  let v850 : BitVec 32 := Scalar.addi v2 c24_i32_653
  let c32_i32_654 : BitVec 32 := 32#32
  let c0_i32_655 : BitVec 32 := 0#32
  let v851 : BitVec 1 := Scalar.cmpi .eq c32_i32_654 c0_i32_655
  let c1_i32_656 : BitVec 32 := 1#32
  let v852 : BitVec 32 := Scalar.select v851 c1_i32_656 c32_i32_654
  let v853 : BitVec 32 := Scalar.remsi v850 v852
  let c0_i32_658 : BitVec 32 := 0#32
  let v855 : BitVec 1 := Scalar.cmpi .slt v853 c0_i32_658
  let c0_i32_659 : BitVec 32 := 0#32
  let v856 : BitVec 1 := Scalar.cmpi .slt v852 c0_i32_659
  let v857 : BitVec 1 := Scalar.xori v855 v856
  let c0_i32_657 : BitVec 32 := 0#32
  let v854 : BitVec 1 := Scalar.cmpi .ne v853 c0_i32_657
  let v858 : BitVec 1 := Scalar.andi v857 v854
  let v859 : BitVec 32 := Scalar.addi v853 v852
  let v860 : BitVec 32 := Scalar.select v858 v859 v853
  let c1_i32_662 : BitVec 32 := 1#32
  let v861 : BitVec 32 := Scalar.muli v860 c1_i32_662
  let v862 : BitVec 32 := Scalar.addi c0_i32_663 v861
  v862.toNat
def k0_dev56 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_669 : BitVec 32 := 25#32
  let v869 : BitVec 32 := Scalar.addi v2 c25_i32_669
  let c32_i32_670 : BitVec 32 := 32#32
  let c0_i32_671 : BitVec 32 := 0#32
  let v870 : BitVec 1 := Scalar.cmpi .eq c32_i32_670 c0_i32_671
  let c1_i32_672 : BitVec 32 := 1#32
  let v871 : BitVec 32 := Scalar.select v870 c1_i32_672 c32_i32_670
  let v872 : BitVec 32 := Scalar.remsi v869 v871
  let c0_i32_674 : BitVec 32 := 0#32
  let v874 : BitVec 1 := Scalar.cmpi .slt v872 c0_i32_674
  let c0_i32_675 : BitVec 32 := 0#32
  let v875 : BitVec 1 := Scalar.cmpi .slt v871 c0_i32_675
  let v876 : BitVec 1 := Scalar.xori v874 v875
  let c0_i32_673 : BitVec 32 := 0#32
  let v873 : BitVec 1 := Scalar.cmpi .ne v872 c0_i32_673
  let v877 : BitVec 1 := Scalar.andi v876 v873
  let v878 : BitVec 32 := Scalar.addi v872 v871
  let v879 : BitVec 32 := Scalar.select v877 v878 v872
  let c1_i32_678 : BitVec 32 := 1#32
  let v880 : BitVec 32 := Scalar.muli v879 c1_i32_678
  let v881 : BitVec 32 := Scalar.addi c0_i32_679 v880
  v881.toNat
def k0_dev57 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_685 : BitVec 32 := 26#32
  let v888 : BitVec 32 := Scalar.addi v2 c26_i32_685
  let c32_i32_686 : BitVec 32 := 32#32
  let c0_i32_687 : BitVec 32 := 0#32
  let v889 : BitVec 1 := Scalar.cmpi .eq c32_i32_686 c0_i32_687
  let c1_i32_688 : BitVec 32 := 1#32
  let v890 : BitVec 32 := Scalar.select v889 c1_i32_688 c32_i32_686
  let v891 : BitVec 32 := Scalar.remsi v888 v890
  let c0_i32_690 : BitVec 32 := 0#32
  let v893 : BitVec 1 := Scalar.cmpi .slt v891 c0_i32_690
  let c0_i32_691 : BitVec 32 := 0#32
  let v894 : BitVec 1 := Scalar.cmpi .slt v890 c0_i32_691
  let v895 : BitVec 1 := Scalar.xori v893 v894
  let c0_i32_689 : BitVec 32 := 0#32
  let v892 : BitVec 1 := Scalar.cmpi .ne v891 c0_i32_689
  let v896 : BitVec 1 := Scalar.andi v895 v892
  let v897 : BitVec 32 := Scalar.addi v891 v890
  let v898 : BitVec 32 := Scalar.select v896 v897 v891
  let c1_i32_694 : BitVec 32 := 1#32
  let v899 : BitVec 32 := Scalar.muli v898 c1_i32_694
  let v900 : BitVec 32 := Scalar.addi c0_i32_695 v899
  v900.toNat
def k0_dev58 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_701 : BitVec 32 := 27#32
  let v907 : BitVec 32 := Scalar.addi v2 c27_i32_701
  let c32_i32_702 : BitVec 32 := 32#32
  let c0_i32_703 : BitVec 32 := 0#32
  let v908 : BitVec 1 := Scalar.cmpi .eq c32_i32_702 c0_i32_703
  let c1_i32_704 : BitVec 32 := 1#32
  let v909 : BitVec 32 := Scalar.select v908 c1_i32_704 c32_i32_702
  let v910 : BitVec 32 := Scalar.remsi v907 v909
  let c0_i32_706 : BitVec 32 := 0#32
  let v912 : BitVec 1 := Scalar.cmpi .slt v910 c0_i32_706
  let c0_i32_707 : BitVec 32 := 0#32
  let v913 : BitVec 1 := Scalar.cmpi .slt v909 c0_i32_707
  let v914 : BitVec 1 := Scalar.xori v912 v913
  let c0_i32_705 : BitVec 32 := 0#32
  let v911 : BitVec 1 := Scalar.cmpi .ne v910 c0_i32_705
  let v915 : BitVec 1 := Scalar.andi v914 v911
  let v916 : BitVec 32 := Scalar.addi v910 v909
  let v917 : BitVec 32 := Scalar.select v915 v916 v910
  let c1_i32_710 : BitVec 32 := 1#32
  let v918 : BitVec 32 := Scalar.muli v917 c1_i32_710
  let v919 : BitVec 32 := Scalar.addi c0_i32_711 v918
  v919.toNat
def k0_dev59 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_717 : BitVec 32 := 28#32
  let v926 : BitVec 32 := Scalar.addi v2 c28_i32_717
  let c32_i32_718 : BitVec 32 := 32#32
  let c0_i32_719 : BitVec 32 := 0#32
  let v927 : BitVec 1 := Scalar.cmpi .eq c32_i32_718 c0_i32_719
  let c1_i32_720 : BitVec 32 := 1#32
  let v928 : BitVec 32 := Scalar.select v927 c1_i32_720 c32_i32_718
  let v929 : BitVec 32 := Scalar.remsi v926 v928
  let c0_i32_722 : BitVec 32 := 0#32
  let v931 : BitVec 1 := Scalar.cmpi .slt v929 c0_i32_722
  let c0_i32_723 : BitVec 32 := 0#32
  let v932 : BitVec 1 := Scalar.cmpi .slt v928 c0_i32_723
  let v933 : BitVec 1 := Scalar.xori v931 v932
  let c0_i32_721 : BitVec 32 := 0#32
  let v930 : BitVec 1 := Scalar.cmpi .ne v929 c0_i32_721
  let v934 : BitVec 1 := Scalar.andi v933 v930
  let v935 : BitVec 32 := Scalar.addi v929 v928
  let v936 : BitVec 32 := Scalar.select v934 v935 v929
  let c1_i32_726 : BitVec 32 := 1#32
  let v937 : BitVec 32 := Scalar.muli v936 c1_i32_726
  let v938 : BitVec 32 := Scalar.addi c0_i32_727 v937
  v938.toNat
def k0_dev60 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_733 : BitVec 32 := 29#32
  let v945 : BitVec 32 := Scalar.addi v2 c29_i32_733
  let c32_i32_734 : BitVec 32 := 32#32
  let c0_i32_735 : BitVec 32 := 0#32
  let v946 : BitVec 1 := Scalar.cmpi .eq c32_i32_734 c0_i32_735
  let c1_i32_736 : BitVec 32 := 1#32
  let v947 : BitVec 32 := Scalar.select v946 c1_i32_736 c32_i32_734
  let v948 : BitVec 32 := Scalar.remsi v945 v947
  let c0_i32_738 : BitVec 32 := 0#32
  let v950 : BitVec 1 := Scalar.cmpi .slt v948 c0_i32_738
  let c0_i32_739 : BitVec 32 := 0#32
  let v951 : BitVec 1 := Scalar.cmpi .slt v947 c0_i32_739
  let v952 : BitVec 1 := Scalar.xori v950 v951
  let c0_i32_737 : BitVec 32 := 0#32
  let v949 : BitVec 1 := Scalar.cmpi .ne v948 c0_i32_737
  let v953 : BitVec 1 := Scalar.andi v952 v949
  let v954 : BitVec 32 := Scalar.addi v948 v947
  let v955 : BitVec 32 := Scalar.select v953 v954 v948
  let c1_i32_742 : BitVec 32 := 1#32
  let v956 : BitVec 32 := Scalar.muli v955 c1_i32_742
  let v957 : BitVec 32 := Scalar.addi c0_i32_743 v956
  v957.toNat
def k0_dev61 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_749 : BitVec 32 := 30#32
  let v964 : BitVec 32 := Scalar.addi v2 c30_i32_749
  let c32_i32_750 : BitVec 32 := 32#32
  let c0_i32_751 : BitVec 32 := 0#32
  let v965 : BitVec 1 := Scalar.cmpi .eq c32_i32_750 c0_i32_751
  let c1_i32_752 : BitVec 32 := 1#32
  let v966 : BitVec 32 := Scalar.select v965 c1_i32_752 c32_i32_750
  let v967 : BitVec 32 := Scalar.remsi v964 v966
  let c0_i32_754 : BitVec 32 := 0#32
  let v969 : BitVec 1 := Scalar.cmpi .slt v967 c0_i32_754
  let c0_i32_755 : BitVec 32 := 0#32
  let v970 : BitVec 1 := Scalar.cmpi .slt v966 c0_i32_755
  let v971 : BitVec 1 := Scalar.xori v969 v970
  let c0_i32_753 : BitVec 32 := 0#32
  let v968 : BitVec 1 := Scalar.cmpi .ne v967 c0_i32_753
  let v972 : BitVec 1 := Scalar.andi v971 v968
  let v973 : BitVec 32 := Scalar.addi v967 v966
  let v974 : BitVec 32 := Scalar.select v972 v973 v967
  let c1_i32_758 : BitVec 32 := 1#32
  let v975 : BitVec 32 := Scalar.muli v974 c1_i32_758
  let v976 : BitVec 32 := Scalar.addi c0_i32_759 v975
  v976.toNat
def k0_dev62 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_765 : BitVec 32 := 31#32
  let v983 : BitVec 32 := Scalar.addi v2 c31_i32_765
  let c32_i32_766 : BitVec 32 := 32#32
  let c0_i32_767 : BitVec 32 := 0#32
  let v984 : BitVec 1 := Scalar.cmpi .eq c32_i32_766 c0_i32_767
  let c1_i32_768 : BitVec 32 := 1#32
  let v985 : BitVec 32 := Scalar.select v984 c1_i32_768 c32_i32_766
  let v986 : BitVec 32 := Scalar.remsi v983 v985
  let c0_i32_770 : BitVec 32 := 0#32
  let v988 : BitVec 1 := Scalar.cmpi .slt v986 c0_i32_770
  let c0_i32_771 : BitVec 32 := 0#32
  let v989 : BitVec 1 := Scalar.cmpi .slt v985 c0_i32_771
  let v990 : BitVec 1 := Scalar.xori v988 v989
  let c0_i32_769 : BitVec 32 := 0#32
  let v987 : BitVec 1 := Scalar.cmpi .ne v986 c0_i32_769
  let v991 : BitVec 1 := Scalar.andi v990 v987
  let v992 : BitVec 32 := Scalar.addi v986 v985
  let v993 : BitVec 32 := Scalar.select v991 v992 v986
  let c1_i32_774 : BitVec 32 := 1#32
  let v994 : BitVec 32 := Scalar.muli v993 c1_i32_774
  let v995 : BitVec 32 := Scalar.addi c0_i32_775 v994
  v995.toNat
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1312 : Index := Scalar.indexCast v2
  let c0_1308 : Index := 0#32
  let c0_1309 : Index := 0#32
  ![v1312.toNat, 0, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1325 : BitVec 32 := 0#32
  let c0_i32_1326 : BitVec 32 := 0#32
  ![v2.toNat, 0, 0]
def k0_dev63 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1314 : BitVec 32 := 1#32
  let v1323 : BitVec 32 := Scalar.addi v2 c1_i32_1314
  let c32_i32_1315 : BitVec 32 := 32#32
  let c0_i32_1316 : BitVec 32 := 0#32
  let v1324 : BitVec 1 := Scalar.cmpi .eq c32_i32_1315 c0_i32_1316
  let c1_i32_1317 : BitVec 32 := 1#32
  let v1325 : BitVec 32 := Scalar.select v1324 c1_i32_1317 c32_i32_1315
  let v1326 : BitVec 32 := Scalar.remsi v1323 v1325
  let c0_i32_1319 : BitVec 32 := 0#32
  let v1328 : BitVec 1 := Scalar.cmpi .slt v1326 c0_i32_1319
  let c0_i32_1320 : BitVec 32 := 0#32
  let v1329 : BitVec 1 := Scalar.cmpi .slt v1325 c0_i32_1320
  let v1330 : BitVec 1 := Scalar.xori v1328 v1329
  let c0_i32_1318 : BitVec 32 := 0#32
  let v1327 : BitVec 1 := Scalar.cmpi .ne v1326 c0_i32_1318
  let v1331 : BitVec 1 := Scalar.andi v1330 v1327
  let v1332 : BitVec 32 := Scalar.addi v1326 v1325
  let v1333 : BitVec 32 := Scalar.select v1331 v1332 v1326
  let c1_i32_1323 : BitVec 32 := 1#32
  let v1334 : BitVec 32 := Scalar.muli v1333 c1_i32_1323
  let v1335 : BitVec 32 := Scalar.addi c0_i32_1324 v1334
  v1335.toNat
def k0_dev64 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1329 : BitVec 32 := 2#32
  let v1342 : BitVec 32 := Scalar.addi v2 c2_i32_1329
  let c32_i32_1330 : BitVec 32 := 32#32
  let c0_i32_1331 : BitVec 32 := 0#32
  let v1343 : BitVec 1 := Scalar.cmpi .eq c32_i32_1330 c0_i32_1331
  let c1_i32_1332 : BitVec 32 := 1#32
  let v1344 : BitVec 32 := Scalar.select v1343 c1_i32_1332 c32_i32_1330
  let v1345 : BitVec 32 := Scalar.remsi v1342 v1344
  let c0_i32_1334 : BitVec 32 := 0#32
  let v1347 : BitVec 1 := Scalar.cmpi .slt v1345 c0_i32_1334
  let c0_i32_1335 : BitVec 32 := 0#32
  let v1348 : BitVec 1 := Scalar.cmpi .slt v1344 c0_i32_1335
  let v1349 : BitVec 1 := Scalar.xori v1347 v1348
  let c0_i32_1333 : BitVec 32 := 0#32
  let v1346 : BitVec 1 := Scalar.cmpi .ne v1345 c0_i32_1333
  let v1350 : BitVec 1 := Scalar.andi v1349 v1346
  let v1351 : BitVec 32 := Scalar.addi v1345 v1344
  let v1352 : BitVec 32 := Scalar.select v1350 v1351 v1345
  let c1_i32_1338 : BitVec 32 := 1#32
  let v1353 : BitVec 32 := Scalar.muli v1352 c1_i32_1338
  let v1354 : BitVec 32 := Scalar.addi c0_i32_1339 v1353
  v1354.toNat
def k0_dev65 (d0 : Dev nD) : Nat :=
  let c0_i32_1354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1344 : BitVec 32 := 3#32
  let v1361 : BitVec 32 := Scalar.addi v2 c3_i32_1344
  let c32_i32_1345 : BitVec 32 := 32#32
  let c0_i32_1346 : BitVec 32 := 0#32
  let v1362 : BitVec 1 := Scalar.cmpi .eq c32_i32_1345 c0_i32_1346
  let c1_i32_1347 : BitVec 32 := 1#32
  let v1363 : BitVec 32 := Scalar.select v1362 c1_i32_1347 c32_i32_1345
  let v1364 : BitVec 32 := Scalar.remsi v1361 v1363
  let c0_i32_1349 : BitVec 32 := 0#32
  let v1366 : BitVec 1 := Scalar.cmpi .slt v1364 c0_i32_1349
  let c0_i32_1350 : BitVec 32 := 0#32
  let v1367 : BitVec 1 := Scalar.cmpi .slt v1363 c0_i32_1350
  let v1368 : BitVec 1 := Scalar.xori v1366 v1367
  let c0_i32_1348 : BitVec 32 := 0#32
  let v1365 : BitVec 1 := Scalar.cmpi .ne v1364 c0_i32_1348
  let v1369 : BitVec 1 := Scalar.andi v1368 v1365
  let v1370 : BitVec 32 := Scalar.addi v1364 v1363
  let v1371 : BitVec 32 := Scalar.select v1369 v1370 v1364
  let c1_i32_1353 : BitVec 32 := 1#32
  let v1372 : BitVec 32 := Scalar.muli v1371 c1_i32_1353
  let v1373 : BitVec 32 := Scalar.addi c0_i32_1354 v1372
  v1373.toNat
def k0_dev66 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1359 : BitVec 32 := 4#32
  let v1380 : BitVec 32 := Scalar.addi v2 c4_i32_1359
  let c32_i32_1360 : BitVec 32 := 32#32
  let c0_i32_1361 : BitVec 32 := 0#32
  let v1381 : BitVec 1 := Scalar.cmpi .eq c32_i32_1360 c0_i32_1361
  let c1_i32_1362 : BitVec 32 := 1#32
  let v1382 : BitVec 32 := Scalar.select v1381 c1_i32_1362 c32_i32_1360
  let v1383 : BitVec 32 := Scalar.remsi v1380 v1382
  let c0_i32_1364 : BitVec 32 := 0#32
  let v1385 : BitVec 1 := Scalar.cmpi .slt v1383 c0_i32_1364
  let c0_i32_1365 : BitVec 32 := 0#32
  let v1386 : BitVec 1 := Scalar.cmpi .slt v1382 c0_i32_1365
  let v1387 : BitVec 1 := Scalar.xori v1385 v1386
  let c0_i32_1363 : BitVec 32 := 0#32
  let v1384 : BitVec 1 := Scalar.cmpi .ne v1383 c0_i32_1363
  let v1388 : BitVec 1 := Scalar.andi v1387 v1384
  let v1389 : BitVec 32 := Scalar.addi v1383 v1382
  let v1390 : BitVec 32 := Scalar.select v1388 v1389 v1383
  let c1_i32_1368 : BitVec 32 := 1#32
  let v1391 : BitVec 32 := Scalar.muli v1390 c1_i32_1368
  let v1392 : BitVec 32 := Scalar.addi c0_i32_1369 v1391
  v1392.toNat
def k0_dev67 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1374 : BitVec 32 := 5#32
  let v1399 : BitVec 32 := Scalar.addi v2 c5_i32_1374
  let c32_i32_1375 : BitVec 32 := 32#32
  let c0_i32_1376 : BitVec 32 := 0#32
  let v1400 : BitVec 1 := Scalar.cmpi .eq c32_i32_1375 c0_i32_1376
  let c1_i32_1377 : BitVec 32 := 1#32
  let v1401 : BitVec 32 := Scalar.select v1400 c1_i32_1377 c32_i32_1375
  let v1402 : BitVec 32 := Scalar.remsi v1399 v1401
  let c0_i32_1379 : BitVec 32 := 0#32
  let v1404 : BitVec 1 := Scalar.cmpi .slt v1402 c0_i32_1379
  let c0_i32_1380 : BitVec 32 := 0#32
  let v1405 : BitVec 1 := Scalar.cmpi .slt v1401 c0_i32_1380
  let v1406 : BitVec 1 := Scalar.xori v1404 v1405
  let c0_i32_1378 : BitVec 32 := 0#32
  let v1403 : BitVec 1 := Scalar.cmpi .ne v1402 c0_i32_1378
  let v1407 : BitVec 1 := Scalar.andi v1406 v1403
  let v1408 : BitVec 32 := Scalar.addi v1402 v1401
  let v1409 : BitVec 32 := Scalar.select v1407 v1408 v1402
  let c1_i32_1383 : BitVec 32 := 1#32
  let v1410 : BitVec 32 := Scalar.muli v1409 c1_i32_1383
  let v1411 : BitVec 32 := Scalar.addi c0_i32_1384 v1410
  v1411.toNat
def k0_dev68 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1389 : BitVec 32 := 6#32
  let v1418 : BitVec 32 := Scalar.addi v2 c6_i32_1389
  let c32_i32_1390 : BitVec 32 := 32#32
  let c0_i32_1391 : BitVec 32 := 0#32
  let v1419 : BitVec 1 := Scalar.cmpi .eq c32_i32_1390 c0_i32_1391
  let c1_i32_1392 : BitVec 32 := 1#32
  let v1420 : BitVec 32 := Scalar.select v1419 c1_i32_1392 c32_i32_1390
  let v1421 : BitVec 32 := Scalar.remsi v1418 v1420
  let c0_i32_1394 : BitVec 32 := 0#32
  let v1423 : BitVec 1 := Scalar.cmpi .slt v1421 c0_i32_1394
  let c0_i32_1395 : BitVec 32 := 0#32
  let v1424 : BitVec 1 := Scalar.cmpi .slt v1420 c0_i32_1395
  let v1425 : BitVec 1 := Scalar.xori v1423 v1424
  let c0_i32_1393 : BitVec 32 := 0#32
  let v1422 : BitVec 1 := Scalar.cmpi .ne v1421 c0_i32_1393
  let v1426 : BitVec 1 := Scalar.andi v1425 v1422
  let v1427 : BitVec 32 := Scalar.addi v1421 v1420
  let v1428 : BitVec 32 := Scalar.select v1426 v1427 v1421
  let c1_i32_1398 : BitVec 32 := 1#32
  let v1429 : BitVec 32 := Scalar.muli v1428 c1_i32_1398
  let v1430 : BitVec 32 := Scalar.addi c0_i32_1399 v1429
  v1430.toNat
def k0_dev69 (d0 : Dev nD) : Nat :=
  let c0_i32_1414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1404 : BitVec 32 := 7#32
  let v1437 : BitVec 32 := Scalar.addi v2 c7_i32_1404
  let c32_i32_1405 : BitVec 32 := 32#32
  let c0_i32_1406 : BitVec 32 := 0#32
  let v1438 : BitVec 1 := Scalar.cmpi .eq c32_i32_1405 c0_i32_1406
  let c1_i32_1407 : BitVec 32 := 1#32
  let v1439 : BitVec 32 := Scalar.select v1438 c1_i32_1407 c32_i32_1405
  let v1440 : BitVec 32 := Scalar.remsi v1437 v1439
  let c0_i32_1409 : BitVec 32 := 0#32
  let v1442 : BitVec 1 := Scalar.cmpi .slt v1440 c0_i32_1409
  let c0_i32_1410 : BitVec 32 := 0#32
  let v1443 : BitVec 1 := Scalar.cmpi .slt v1439 c0_i32_1410
  let v1444 : BitVec 1 := Scalar.xori v1442 v1443
  let c0_i32_1408 : BitVec 32 := 0#32
  let v1441 : BitVec 1 := Scalar.cmpi .ne v1440 c0_i32_1408
  let v1445 : BitVec 1 := Scalar.andi v1444 v1441
  let v1446 : BitVec 32 := Scalar.addi v1440 v1439
  let v1447 : BitVec 32 := Scalar.select v1445 v1446 v1440
  let c1_i32_1413 : BitVec 32 := 1#32
  let v1448 : BitVec 32 := Scalar.muli v1447 c1_i32_1413
  let v1449 : BitVec 32 := Scalar.addi c0_i32_1414 v1448
  v1449.toNat
def k0_dev70 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1419 : BitVec 32 := 8#32
  let v1456 : BitVec 32 := Scalar.addi v2 c8_i32_1419
  let c32_i32_1420 : BitVec 32 := 32#32
  let c0_i32_1421 : BitVec 32 := 0#32
  let v1457 : BitVec 1 := Scalar.cmpi .eq c32_i32_1420 c0_i32_1421
  let c1_i32_1422 : BitVec 32 := 1#32
  let v1458 : BitVec 32 := Scalar.select v1457 c1_i32_1422 c32_i32_1420
  let v1459 : BitVec 32 := Scalar.remsi v1456 v1458
  let c0_i32_1424 : BitVec 32 := 0#32
  let v1461 : BitVec 1 := Scalar.cmpi .slt v1459 c0_i32_1424
  let c0_i32_1425 : BitVec 32 := 0#32
  let v1462 : BitVec 1 := Scalar.cmpi .slt v1458 c0_i32_1425
  let v1463 : BitVec 1 := Scalar.xori v1461 v1462
  let c0_i32_1423 : BitVec 32 := 0#32
  let v1460 : BitVec 1 := Scalar.cmpi .ne v1459 c0_i32_1423
  let v1464 : BitVec 1 := Scalar.andi v1463 v1460
  let v1465 : BitVec 32 := Scalar.addi v1459 v1458
  let v1466 : BitVec 32 := Scalar.select v1464 v1465 v1459
  let c1_i32_1428 : BitVec 32 := 1#32
  let v1467 : BitVec 32 := Scalar.muli v1466 c1_i32_1428
  let v1468 : BitVec 32 := Scalar.addi c0_i32_1429 v1467
  v1468.toNat
def k0_dev71 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1434 : BitVec 32 := 9#32
  let v1475 : BitVec 32 := Scalar.addi v2 c9_i32_1434
  let c32_i32_1435 : BitVec 32 := 32#32
  let c0_i32_1436 : BitVec 32 := 0#32
  let v1476 : BitVec 1 := Scalar.cmpi .eq c32_i32_1435 c0_i32_1436
  let c1_i32_1437 : BitVec 32 := 1#32
  let v1477 : BitVec 32 := Scalar.select v1476 c1_i32_1437 c32_i32_1435
  let v1478 : BitVec 32 := Scalar.remsi v1475 v1477
  let c0_i32_1439 : BitVec 32 := 0#32
  let v1480 : BitVec 1 := Scalar.cmpi .slt v1478 c0_i32_1439
  let c0_i32_1440 : BitVec 32 := 0#32
  let v1481 : BitVec 1 := Scalar.cmpi .slt v1477 c0_i32_1440
  let v1482 : BitVec 1 := Scalar.xori v1480 v1481
  let c0_i32_1438 : BitVec 32 := 0#32
  let v1479 : BitVec 1 := Scalar.cmpi .ne v1478 c0_i32_1438
  let v1483 : BitVec 1 := Scalar.andi v1482 v1479
  let v1484 : BitVec 32 := Scalar.addi v1478 v1477
  let v1485 : BitVec 32 := Scalar.select v1483 v1484 v1478
  let c1_i32_1443 : BitVec 32 := 1#32
  let v1486 : BitVec 32 := Scalar.muli v1485 c1_i32_1443
  let v1487 : BitVec 32 := Scalar.addi c0_i32_1444 v1486
  v1487.toNat
def k0_dev72 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1449 : BitVec 32 := 10#32
  let v1494 : BitVec 32 := Scalar.addi v2 c10_i32_1449
  let c32_i32_1450 : BitVec 32 := 32#32
  let c0_i32_1451 : BitVec 32 := 0#32
  let v1495 : BitVec 1 := Scalar.cmpi .eq c32_i32_1450 c0_i32_1451
  let c1_i32_1452 : BitVec 32 := 1#32
  let v1496 : BitVec 32 := Scalar.select v1495 c1_i32_1452 c32_i32_1450
  let v1497 : BitVec 32 := Scalar.remsi v1494 v1496
  let c0_i32_1454 : BitVec 32 := 0#32
  let v1499 : BitVec 1 := Scalar.cmpi .slt v1497 c0_i32_1454
  let c0_i32_1455 : BitVec 32 := 0#32
  let v1500 : BitVec 1 := Scalar.cmpi .slt v1496 c0_i32_1455
  let v1501 : BitVec 1 := Scalar.xori v1499 v1500
  let c0_i32_1453 : BitVec 32 := 0#32
  let v1498 : BitVec 1 := Scalar.cmpi .ne v1497 c0_i32_1453
  let v1502 : BitVec 1 := Scalar.andi v1501 v1498
  let v1503 : BitVec 32 := Scalar.addi v1497 v1496
  let v1504 : BitVec 32 := Scalar.select v1502 v1503 v1497
  let c1_i32_1458 : BitVec 32 := 1#32
  let v1505 : BitVec 32 := Scalar.muli v1504 c1_i32_1458
  let v1506 : BitVec 32 := Scalar.addi c0_i32_1459 v1505
  v1506.toNat
def k0_dev73 (d0 : Dev nD) : Nat :=
  let c0_i32_1474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1464 : BitVec 32 := 11#32
  let v1513 : BitVec 32 := Scalar.addi v2 c11_i32_1464
  let c32_i32_1465 : BitVec 32 := 32#32
  let c0_i32_1466 : BitVec 32 := 0#32
  let v1514 : BitVec 1 := Scalar.cmpi .eq c32_i32_1465 c0_i32_1466
  let c1_i32_1467 : BitVec 32 := 1#32
  let v1515 : BitVec 32 := Scalar.select v1514 c1_i32_1467 c32_i32_1465
  let v1516 : BitVec 32 := Scalar.remsi v1513 v1515
  let c0_i32_1469 : BitVec 32 := 0#32
  let v1518 : BitVec 1 := Scalar.cmpi .slt v1516 c0_i32_1469
  let c0_i32_1470 : BitVec 32 := 0#32
  let v1519 : BitVec 1 := Scalar.cmpi .slt v1515 c0_i32_1470
  let v1520 : BitVec 1 := Scalar.xori v1518 v1519
  let c0_i32_1468 : BitVec 32 := 0#32
  let v1517 : BitVec 1 := Scalar.cmpi .ne v1516 c0_i32_1468
  let v1521 : BitVec 1 := Scalar.andi v1520 v1517
  let v1522 : BitVec 32 := Scalar.addi v1516 v1515
  let v1523 : BitVec 32 := Scalar.select v1521 v1522 v1516
  let c1_i32_1473 : BitVec 32 := 1#32
  let v1524 : BitVec 32 := Scalar.muli v1523 c1_i32_1473
  let v1525 : BitVec 32 := Scalar.addi c0_i32_1474 v1524
  v1525.toNat
def k0_dev74 (d0 : Dev nD) : Nat :=
  let c0_i32_1489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1479 : BitVec 32 := 12#32
  let v1532 : BitVec 32 := Scalar.addi v2 c12_i32_1479
  let c32_i32_1480 : BitVec 32 := 32#32
  let c0_i32_1481 : BitVec 32 := 0#32
  let v1533 : BitVec 1 := Scalar.cmpi .eq c32_i32_1480 c0_i32_1481
  let c1_i32_1482 : BitVec 32 := 1#32
  let v1534 : BitVec 32 := Scalar.select v1533 c1_i32_1482 c32_i32_1480
  let v1535 : BitVec 32 := Scalar.remsi v1532 v1534
  let c0_i32_1484 : BitVec 32 := 0#32
  let v1537 : BitVec 1 := Scalar.cmpi .slt v1535 c0_i32_1484
  let c0_i32_1485 : BitVec 32 := 0#32
  let v1538 : BitVec 1 := Scalar.cmpi .slt v1534 c0_i32_1485
  let v1539 : BitVec 1 := Scalar.xori v1537 v1538
  let c0_i32_1483 : BitVec 32 := 0#32
  let v1536 : BitVec 1 := Scalar.cmpi .ne v1535 c0_i32_1483
  let v1540 : BitVec 1 := Scalar.andi v1539 v1536
  let v1541 : BitVec 32 := Scalar.addi v1535 v1534
  let v1542 : BitVec 32 := Scalar.select v1540 v1541 v1535
  let c1_i32_1488 : BitVec 32 := 1#32
  let v1543 : BitVec 32 := Scalar.muli v1542 c1_i32_1488
  let v1544 : BitVec 32 := Scalar.addi c0_i32_1489 v1543
  v1544.toNat
def k0_dev75 (d0 : Dev nD) : Nat :=
  let c0_i32_1504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1494 : BitVec 32 := 13#32
  let v1551 : BitVec 32 := Scalar.addi v2 c13_i32_1494
  let c32_i32_1495 : BitVec 32 := 32#32
  let c0_i32_1496 : BitVec 32 := 0#32
  let v1552 : BitVec 1 := Scalar.cmpi .eq c32_i32_1495 c0_i32_1496
  let c1_i32_1497 : BitVec 32 := 1#32
  let v1553 : BitVec 32 := Scalar.select v1552 c1_i32_1497 c32_i32_1495
  let v1554 : BitVec 32 := Scalar.remsi v1551 v1553
  let c0_i32_1499 : BitVec 32 := 0#32
  let v1556 : BitVec 1 := Scalar.cmpi .slt v1554 c0_i32_1499
  let c0_i32_1500 : BitVec 32 := 0#32
  let v1557 : BitVec 1 := Scalar.cmpi .slt v1553 c0_i32_1500
  let v1558 : BitVec 1 := Scalar.xori v1556 v1557
  let c0_i32_1498 : BitVec 32 := 0#32
  let v1555 : BitVec 1 := Scalar.cmpi .ne v1554 c0_i32_1498
  let v1559 : BitVec 1 := Scalar.andi v1558 v1555
  let v1560 : BitVec 32 := Scalar.addi v1554 v1553
  let v1561 : BitVec 32 := Scalar.select v1559 v1560 v1554
  let c1_i32_1503 : BitVec 32 := 1#32
  let v1562 : BitVec 32 := Scalar.muli v1561 c1_i32_1503
  let v1563 : BitVec 32 := Scalar.addi c0_i32_1504 v1562
  v1563.toNat
def k0_dev76 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1509 : BitVec 32 := 14#32
  let v1570 : BitVec 32 := Scalar.addi v2 c14_i32_1509
  let c32_i32_1510 : BitVec 32 := 32#32
  let c0_i32_1511 : BitVec 32 := 0#32
  let v1571 : BitVec 1 := Scalar.cmpi .eq c32_i32_1510 c0_i32_1511
  let c1_i32_1512 : BitVec 32 := 1#32
  let v1572 : BitVec 32 := Scalar.select v1571 c1_i32_1512 c32_i32_1510
  let v1573 : BitVec 32 := Scalar.remsi v1570 v1572
  let c0_i32_1514 : BitVec 32 := 0#32
  let v1575 : BitVec 1 := Scalar.cmpi .slt v1573 c0_i32_1514
  let c0_i32_1515 : BitVec 32 := 0#32
  let v1576 : BitVec 1 := Scalar.cmpi .slt v1572 c0_i32_1515
  let v1577 : BitVec 1 := Scalar.xori v1575 v1576
  let c0_i32_1513 : BitVec 32 := 0#32
  let v1574 : BitVec 1 := Scalar.cmpi .ne v1573 c0_i32_1513
  let v1578 : BitVec 1 := Scalar.andi v1577 v1574
  let v1579 : BitVec 32 := Scalar.addi v1573 v1572
  let v1580 : BitVec 32 := Scalar.select v1578 v1579 v1573
  let c1_i32_1518 : BitVec 32 := 1#32
  let v1581 : BitVec 32 := Scalar.muli v1580 c1_i32_1518
  let v1582 : BitVec 32 := Scalar.addi c0_i32_1519 v1581
  v1582.toNat
def k0_dev77 (d0 : Dev nD) : Nat :=
  let c0_i32_1534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1524 : BitVec 32 := 15#32
  let v1589 : BitVec 32 := Scalar.addi v2 c15_i32_1524
  let c32_i32_1525 : BitVec 32 := 32#32
  let c0_i32_1526 : BitVec 32 := 0#32
  let v1590 : BitVec 1 := Scalar.cmpi .eq c32_i32_1525 c0_i32_1526
  let c1_i32_1527 : BitVec 32 := 1#32
  let v1591 : BitVec 32 := Scalar.select v1590 c1_i32_1527 c32_i32_1525
  let v1592 : BitVec 32 := Scalar.remsi v1589 v1591
  let c0_i32_1529 : BitVec 32 := 0#32
  let v1594 : BitVec 1 := Scalar.cmpi .slt v1592 c0_i32_1529
  let c0_i32_1530 : BitVec 32 := 0#32
  let v1595 : BitVec 1 := Scalar.cmpi .slt v1591 c0_i32_1530
  let v1596 : BitVec 1 := Scalar.xori v1594 v1595
  let c0_i32_1528 : BitVec 32 := 0#32
  let v1593 : BitVec 1 := Scalar.cmpi .ne v1592 c0_i32_1528
  let v1597 : BitVec 1 := Scalar.andi v1596 v1593
  let v1598 : BitVec 32 := Scalar.addi v1592 v1591
  let v1599 : BitVec 32 := Scalar.select v1597 v1598 v1592
  let c1_i32_1533 : BitVec 32 := 1#32
  let v1600 : BitVec 32 := Scalar.muli v1599 c1_i32_1533
  let v1601 : BitVec 32 := Scalar.addi c0_i32_1534 v1600
  v1601.toNat
def k0_dev78 (d0 : Dev nD) : Nat :=
  let c0_i32_1549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1539 : BitVec 32 := 16#32
  let v1608 : BitVec 32 := Scalar.addi v2 c16_i32_1539
  let c32_i32_1540 : BitVec 32 := 32#32
  let c0_i32_1541 : BitVec 32 := 0#32
  let v1609 : BitVec 1 := Scalar.cmpi .eq c32_i32_1540 c0_i32_1541
  let c1_i32_1542 : BitVec 32 := 1#32
  let v1610 : BitVec 32 := Scalar.select v1609 c1_i32_1542 c32_i32_1540
  let v1611 : BitVec 32 := Scalar.remsi v1608 v1610
  let c0_i32_1544 : BitVec 32 := 0#32
  let v1613 : BitVec 1 := Scalar.cmpi .slt v1611 c0_i32_1544
  let c0_i32_1545 : BitVec 32 := 0#32
  let v1614 : BitVec 1 := Scalar.cmpi .slt v1610 c0_i32_1545
  let v1615 : BitVec 1 := Scalar.xori v1613 v1614
  let c0_i32_1543 : BitVec 32 := 0#32
  let v1612 : BitVec 1 := Scalar.cmpi .ne v1611 c0_i32_1543
  let v1616 : BitVec 1 := Scalar.andi v1615 v1612
  let v1617 : BitVec 32 := Scalar.addi v1611 v1610
  let v1618 : BitVec 32 := Scalar.select v1616 v1617 v1611
  let c1_i32_1548 : BitVec 32 := 1#32
  let v1619 : BitVec 32 := Scalar.muli v1618 c1_i32_1548
  let v1620 : BitVec 32 := Scalar.addi c0_i32_1549 v1619
  v1620.toNat
def k0_dev79 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1554 : BitVec 32 := 17#32
  let v1627 : BitVec 32 := Scalar.addi v2 c17_i32_1554
  let c32_i32_1555 : BitVec 32 := 32#32
  let c0_i32_1556 : BitVec 32 := 0#32
  let v1628 : BitVec 1 := Scalar.cmpi .eq c32_i32_1555 c0_i32_1556
  let c1_i32_1557 : BitVec 32 := 1#32
  let v1629 : BitVec 32 := Scalar.select v1628 c1_i32_1557 c32_i32_1555
  let v1630 : BitVec 32 := Scalar.remsi v1627 v1629
  let c0_i32_1559 : BitVec 32 := 0#32
  let v1632 : BitVec 1 := Scalar.cmpi .slt v1630 c0_i32_1559
  let c0_i32_1560 : BitVec 32 := 0#32
  let v1633 : BitVec 1 := Scalar.cmpi .slt v1629 c0_i32_1560
  let v1634 : BitVec 1 := Scalar.xori v1632 v1633
  let c0_i32_1558 : BitVec 32 := 0#32
  let v1631 : BitVec 1 := Scalar.cmpi .ne v1630 c0_i32_1558
  let v1635 : BitVec 1 := Scalar.andi v1634 v1631
  let v1636 : BitVec 32 := Scalar.addi v1630 v1629
  let v1637 : BitVec 32 := Scalar.select v1635 v1636 v1630
  let c1_i32_1563 : BitVec 32 := 1#32
  let v1638 : BitVec 32 := Scalar.muli v1637 c1_i32_1563
  let v1639 : BitVec 32 := Scalar.addi c0_i32_1564 v1638
  v1639.toNat
def k0_dev80 (d0 : Dev nD) : Nat :=
  let c0_i32_1579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1569 : BitVec 32 := 18#32
  let v1646 : BitVec 32 := Scalar.addi v2 c18_i32_1569
  let c32_i32_1570 : BitVec 32 := 32#32
  let c0_i32_1571 : BitVec 32 := 0#32
  let v1647 : BitVec 1 := Scalar.cmpi .eq c32_i32_1570 c0_i32_1571
  let c1_i32_1572 : BitVec 32 := 1#32
  let v1648 : BitVec 32 := Scalar.select v1647 c1_i32_1572 c32_i32_1570
  let v1649 : BitVec 32 := Scalar.remsi v1646 v1648
  let c0_i32_1574 : BitVec 32 := 0#32
  let v1651 : BitVec 1 := Scalar.cmpi .slt v1649 c0_i32_1574
  let c0_i32_1575 : BitVec 32 := 0#32
  let v1652 : BitVec 1 := Scalar.cmpi .slt v1648 c0_i32_1575
  let v1653 : BitVec 1 := Scalar.xori v1651 v1652
  let c0_i32_1573 : BitVec 32 := 0#32
  let v1650 : BitVec 1 := Scalar.cmpi .ne v1649 c0_i32_1573
  let v1654 : BitVec 1 := Scalar.andi v1653 v1650
  let v1655 : BitVec 32 := Scalar.addi v1649 v1648
  let v1656 : BitVec 32 := Scalar.select v1654 v1655 v1649
  let c1_i32_1578 : BitVec 32 := 1#32
  let v1657 : BitVec 32 := Scalar.muli v1656 c1_i32_1578
  let v1658 : BitVec 32 := Scalar.addi c0_i32_1579 v1657
  v1658.toNat
def k0_dev81 (d0 : Dev nD) : Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1584 : BitVec 32 := 19#32
  let v1665 : BitVec 32 := Scalar.addi v2 c19_i32_1584
  let c32_i32_1585 : BitVec 32 := 32#32
  let c0_i32_1586 : BitVec 32 := 0#32
  let v1666 : BitVec 1 := Scalar.cmpi .eq c32_i32_1585 c0_i32_1586
  let c1_i32_1587 : BitVec 32 := 1#32
  let v1667 : BitVec 32 := Scalar.select v1666 c1_i32_1587 c32_i32_1585
  let v1668 : BitVec 32 := Scalar.remsi v1665 v1667
  let c0_i32_1589 : BitVec 32 := 0#32
  let v1670 : BitVec 1 := Scalar.cmpi .slt v1668 c0_i32_1589
  let c0_i32_1590 : BitVec 32 := 0#32
  let v1671 : BitVec 1 := Scalar.cmpi .slt v1667 c0_i32_1590
  let v1672 : BitVec 1 := Scalar.xori v1670 v1671
  let c0_i32_1588 : BitVec 32 := 0#32
  let v1669 : BitVec 1 := Scalar.cmpi .ne v1668 c0_i32_1588
  let v1673 : BitVec 1 := Scalar.andi v1672 v1669
  let v1674 : BitVec 32 := Scalar.addi v1668 v1667
  let v1675 : BitVec 32 := Scalar.select v1673 v1674 v1668
  let c1_i32_1593 : BitVec 32 := 1#32
  let v1676 : BitVec 32 := Scalar.muli v1675 c1_i32_1593
  let v1677 : BitVec 32 := Scalar.addi c0_i32_1594 v1676
  v1677.toNat
def k0_dev82 (d0 : Dev nD) : Nat :=
  let c0_i32_1609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1599 : BitVec 32 := 20#32
  let v1684 : BitVec 32 := Scalar.addi v2 c20_i32_1599
  let c32_i32_1600 : BitVec 32 := 32#32
  let c0_i32_1601 : BitVec 32 := 0#32
  let v1685 : BitVec 1 := Scalar.cmpi .eq c32_i32_1600 c0_i32_1601
  let c1_i32_1602 : BitVec 32 := 1#32
  let v1686 : BitVec 32 := Scalar.select v1685 c1_i32_1602 c32_i32_1600
  let v1687 : BitVec 32 := Scalar.remsi v1684 v1686
  let c0_i32_1604 : BitVec 32 := 0#32
  let v1689 : BitVec 1 := Scalar.cmpi .slt v1687 c0_i32_1604
  let c0_i32_1605 : BitVec 32 := 0#32
  let v1690 : BitVec 1 := Scalar.cmpi .slt v1686 c0_i32_1605
  let v1691 : BitVec 1 := Scalar.xori v1689 v1690
  let c0_i32_1603 : BitVec 32 := 0#32
  let v1688 : BitVec 1 := Scalar.cmpi .ne v1687 c0_i32_1603
  let v1692 : BitVec 1 := Scalar.andi v1691 v1688
  let v1693 : BitVec 32 := Scalar.addi v1687 v1686
  let v1694 : BitVec 32 := Scalar.select v1692 v1693 v1687
  let c1_i32_1608 : BitVec 32 := 1#32
  let v1695 : BitVec 32 := Scalar.muli v1694 c1_i32_1608
  let v1696 : BitVec 32 := Scalar.addi c0_i32_1609 v1695
  v1696.toNat
def k0_dev83 (d0 : Dev nD) : Nat :=
  let c0_i32_1624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1614 : BitVec 32 := 21#32
  let v1703 : BitVec 32 := Scalar.addi v2 c21_i32_1614
  let c32_i32_1615 : BitVec 32 := 32#32
  let c0_i32_1616 : BitVec 32 := 0#32
  let v1704 : BitVec 1 := Scalar.cmpi .eq c32_i32_1615 c0_i32_1616
  let c1_i32_1617 : BitVec 32 := 1#32
  let v1705 : BitVec 32 := Scalar.select v1704 c1_i32_1617 c32_i32_1615
  let v1706 : BitVec 32 := Scalar.remsi v1703 v1705
  let c0_i32_1619 : BitVec 32 := 0#32
  let v1708 : BitVec 1 := Scalar.cmpi .slt v1706 c0_i32_1619
  let c0_i32_1620 : BitVec 32 := 0#32
  let v1709 : BitVec 1 := Scalar.cmpi .slt v1705 c0_i32_1620
  let v1710 : BitVec 1 := Scalar.xori v1708 v1709
  let c0_i32_1618 : BitVec 32 := 0#32
  let v1707 : BitVec 1 := Scalar.cmpi .ne v1706 c0_i32_1618
  let v1711 : BitVec 1 := Scalar.andi v1710 v1707
  let v1712 : BitVec 32 := Scalar.addi v1706 v1705
  let v1713 : BitVec 32 := Scalar.select v1711 v1712 v1706
  let c1_i32_1623 : BitVec 32 := 1#32
  let v1714 : BitVec 32 := Scalar.muli v1713 c1_i32_1623
  let v1715 : BitVec 32 := Scalar.addi c0_i32_1624 v1714
  v1715.toNat
def k0_dev84 (d0 : Dev nD) : Nat :=
  let c0_i32_1639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1629 : BitVec 32 := 22#32
  let v1722 : BitVec 32 := Scalar.addi v2 c22_i32_1629
  let c32_i32_1630 : BitVec 32 := 32#32
  let c0_i32_1631 : BitVec 32 := 0#32
  let v1723 : BitVec 1 := Scalar.cmpi .eq c32_i32_1630 c0_i32_1631
  let c1_i32_1632 : BitVec 32 := 1#32
  let v1724 : BitVec 32 := Scalar.select v1723 c1_i32_1632 c32_i32_1630
  let v1725 : BitVec 32 := Scalar.remsi v1722 v1724
  let c0_i32_1634 : BitVec 32 := 0#32
  let v1727 : BitVec 1 := Scalar.cmpi .slt v1725 c0_i32_1634
  let c0_i32_1635 : BitVec 32 := 0#32
  let v1728 : BitVec 1 := Scalar.cmpi .slt v1724 c0_i32_1635
  let v1729 : BitVec 1 := Scalar.xori v1727 v1728
  let c0_i32_1633 : BitVec 32 := 0#32
  let v1726 : BitVec 1 := Scalar.cmpi .ne v1725 c0_i32_1633
  let v1730 : BitVec 1 := Scalar.andi v1729 v1726
  let v1731 : BitVec 32 := Scalar.addi v1725 v1724
  let v1732 : BitVec 32 := Scalar.select v1730 v1731 v1725
  let c1_i32_1638 : BitVec 32 := 1#32
  let v1733 : BitVec 32 := Scalar.muli v1732 c1_i32_1638
  let v1734 : BitVec 32 := Scalar.addi c0_i32_1639 v1733
  v1734.toNat
def k0_dev85 (d0 : Dev nD) : Nat :=
  let c0_i32_1654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1644 : BitVec 32 := 23#32
  let v1741 : BitVec 32 := Scalar.addi v2 c23_i32_1644
  let c32_i32_1645 : BitVec 32 := 32#32
  let c0_i32_1646 : BitVec 32 := 0#32
  let v1742 : BitVec 1 := Scalar.cmpi .eq c32_i32_1645 c0_i32_1646
  let c1_i32_1647 : BitVec 32 := 1#32
  let v1743 : BitVec 32 := Scalar.select v1742 c1_i32_1647 c32_i32_1645
  let v1744 : BitVec 32 := Scalar.remsi v1741 v1743
  let c0_i32_1649 : BitVec 32 := 0#32
  let v1746 : BitVec 1 := Scalar.cmpi .slt v1744 c0_i32_1649
  let c0_i32_1650 : BitVec 32 := 0#32
  let v1747 : BitVec 1 := Scalar.cmpi .slt v1743 c0_i32_1650
  let v1748 : BitVec 1 := Scalar.xori v1746 v1747
  let c0_i32_1648 : BitVec 32 := 0#32
  let v1745 : BitVec 1 := Scalar.cmpi .ne v1744 c0_i32_1648
  let v1749 : BitVec 1 := Scalar.andi v1748 v1745
  let v1750 : BitVec 32 := Scalar.addi v1744 v1743
  let v1751 : BitVec 32 := Scalar.select v1749 v1750 v1744
  let c1_i32_1653 : BitVec 32 := 1#32
  let v1752 : BitVec 32 := Scalar.muli v1751 c1_i32_1653
  let v1753 : BitVec 32 := Scalar.addi c0_i32_1654 v1752
  v1753.toNat
def k0_dev86 (d0 : Dev nD) : Nat :=
  let c0_i32_1669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1659 : BitVec 32 := 24#32
  let v1760 : BitVec 32 := Scalar.addi v2 c24_i32_1659
  let c32_i32_1660 : BitVec 32 := 32#32
  let c0_i32_1661 : BitVec 32 := 0#32
  let v1761 : BitVec 1 := Scalar.cmpi .eq c32_i32_1660 c0_i32_1661
  let c1_i32_1662 : BitVec 32 := 1#32
  let v1762 : BitVec 32 := Scalar.select v1761 c1_i32_1662 c32_i32_1660
  let v1763 : BitVec 32 := Scalar.remsi v1760 v1762
  let c0_i32_1664 : BitVec 32 := 0#32
  let v1765 : BitVec 1 := Scalar.cmpi .slt v1763 c0_i32_1664
  let c0_i32_1665 : BitVec 32 := 0#32
  let v1766 : BitVec 1 := Scalar.cmpi .slt v1762 c0_i32_1665
  let v1767 : BitVec 1 := Scalar.xori v1765 v1766
  let c0_i32_1663 : BitVec 32 := 0#32
  let v1764 : BitVec 1 := Scalar.cmpi .ne v1763 c0_i32_1663
  let v1768 : BitVec 1 := Scalar.andi v1767 v1764
  let v1769 : BitVec 32 := Scalar.addi v1763 v1762
  let v1770 : BitVec 32 := Scalar.select v1768 v1769 v1763
  let c1_i32_1668 : BitVec 32 := 1#32
  let v1771 : BitVec 32 := Scalar.muli v1770 c1_i32_1668
  let v1772 : BitVec 32 := Scalar.addi c0_i32_1669 v1771
  v1772.toNat
def k0_dev87 (d0 : Dev nD) : Nat :=
  let c0_i32_1684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1674 : BitVec 32 := 25#32
  let v1779 : BitVec 32 := Scalar.addi v2 c25_i32_1674
  let c32_i32_1675 : BitVec 32 := 32#32
  let c0_i32_1676 : BitVec 32 := 0#32
  let v1780 : BitVec 1 := Scalar.cmpi .eq c32_i32_1675 c0_i32_1676
  let c1_i32_1677 : BitVec 32 := 1#32
  let v1781 : BitVec 32 := Scalar.select v1780 c1_i32_1677 c32_i32_1675
  let v1782 : BitVec 32 := Scalar.remsi v1779 v1781
  let c0_i32_1679 : BitVec 32 := 0#32
  let v1784 : BitVec 1 := Scalar.cmpi .slt v1782 c0_i32_1679
  let c0_i32_1680 : BitVec 32 := 0#32
  let v1785 : BitVec 1 := Scalar.cmpi .slt v1781 c0_i32_1680
  let v1786 : BitVec 1 := Scalar.xori v1784 v1785
  let c0_i32_1678 : BitVec 32 := 0#32
  let v1783 : BitVec 1 := Scalar.cmpi .ne v1782 c0_i32_1678
  let v1787 : BitVec 1 := Scalar.andi v1786 v1783
  let v1788 : BitVec 32 := Scalar.addi v1782 v1781
  let v1789 : BitVec 32 := Scalar.select v1787 v1788 v1782
  let c1_i32_1683 : BitVec 32 := 1#32
  let v1790 : BitVec 32 := Scalar.muli v1789 c1_i32_1683
  let v1791 : BitVec 32 := Scalar.addi c0_i32_1684 v1790
  v1791.toNat
def k0_dev88 (d0 : Dev nD) : Nat :=
  let c0_i32_1699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1689 : BitVec 32 := 26#32
  let v1798 : BitVec 32 := Scalar.addi v2 c26_i32_1689
  let c32_i32_1690 : BitVec 32 := 32#32
  let c0_i32_1691 : BitVec 32 := 0#32
  let v1799 : BitVec 1 := Scalar.cmpi .eq c32_i32_1690 c0_i32_1691
  let c1_i32_1692 : BitVec 32 := 1#32
  let v1800 : BitVec 32 := Scalar.select v1799 c1_i32_1692 c32_i32_1690
  let v1801 : BitVec 32 := Scalar.remsi v1798 v1800
  let c0_i32_1694 : BitVec 32 := 0#32
  let v1803 : BitVec 1 := Scalar.cmpi .slt v1801 c0_i32_1694
  let c0_i32_1695 : BitVec 32 := 0#32
  let v1804 : BitVec 1 := Scalar.cmpi .slt v1800 c0_i32_1695
  let v1805 : BitVec 1 := Scalar.xori v1803 v1804
  let c0_i32_1693 : BitVec 32 := 0#32
  let v1802 : BitVec 1 := Scalar.cmpi .ne v1801 c0_i32_1693
  let v1806 : BitVec 1 := Scalar.andi v1805 v1802
  let v1807 : BitVec 32 := Scalar.addi v1801 v1800
  let v1808 : BitVec 32 := Scalar.select v1806 v1807 v1801
  let c1_i32_1698 : BitVec 32 := 1#32
  let v1809 : BitVec 32 := Scalar.muli v1808 c1_i32_1698
  let v1810 : BitVec 32 := Scalar.addi c0_i32_1699 v1809
  v1810.toNat
def k0_dev89 (d0 : Dev nD) : Nat :=
  let c0_i32_1714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1704 : BitVec 32 := 27#32
  let v1817 : BitVec 32 := Scalar.addi v2 c27_i32_1704
  let c32_i32_1705 : BitVec 32 := 32#32
  let c0_i32_1706 : BitVec 32 := 0#32
  let v1818 : BitVec 1 := Scalar.cmpi .eq c32_i32_1705 c0_i32_1706
  let c1_i32_1707 : BitVec 32 := 1#32
  let v1819 : BitVec 32 := Scalar.select v1818 c1_i32_1707 c32_i32_1705
  let v1820 : BitVec 32 := Scalar.remsi v1817 v1819
  let c0_i32_1709 : BitVec 32 := 0#32
  let v1822 : BitVec 1 := Scalar.cmpi .slt v1820 c0_i32_1709
  let c0_i32_1710 : BitVec 32 := 0#32
  let v1823 : BitVec 1 := Scalar.cmpi .slt v1819 c0_i32_1710
  let v1824 : BitVec 1 := Scalar.xori v1822 v1823
  let c0_i32_1708 : BitVec 32 := 0#32
  let v1821 : BitVec 1 := Scalar.cmpi .ne v1820 c0_i32_1708
  let v1825 : BitVec 1 := Scalar.andi v1824 v1821
  let v1826 : BitVec 32 := Scalar.addi v1820 v1819
  let v1827 : BitVec 32 := Scalar.select v1825 v1826 v1820
  let c1_i32_1713 : BitVec 32 := 1#32
  let v1828 : BitVec 32 := Scalar.muli v1827 c1_i32_1713
  let v1829 : BitVec 32 := Scalar.addi c0_i32_1714 v1828
  v1829.toNat
def k0_dev90 (d0 : Dev nD) : Nat :=
  let c0_i32_1729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1719 : BitVec 32 := 28#32
  let v1836 : BitVec 32 := Scalar.addi v2 c28_i32_1719
  let c32_i32_1720 : BitVec 32 := 32#32
  let c0_i32_1721 : BitVec 32 := 0#32
  let v1837 : BitVec 1 := Scalar.cmpi .eq c32_i32_1720 c0_i32_1721
  let c1_i32_1722 : BitVec 32 := 1#32
  let v1838 : BitVec 32 := Scalar.select v1837 c1_i32_1722 c32_i32_1720
  let v1839 : BitVec 32 := Scalar.remsi v1836 v1838
  let c0_i32_1724 : BitVec 32 := 0#32
  let v1841 : BitVec 1 := Scalar.cmpi .slt v1839 c0_i32_1724
  let c0_i32_1725 : BitVec 32 := 0#32
  let v1842 : BitVec 1 := Scalar.cmpi .slt v1838 c0_i32_1725
  let v1843 : BitVec 1 := Scalar.xori v1841 v1842
  let c0_i32_1723 : BitVec 32 := 0#32
  let v1840 : BitVec 1 := Scalar.cmpi .ne v1839 c0_i32_1723
  let v1844 : BitVec 1 := Scalar.andi v1843 v1840
  let v1845 : BitVec 32 := Scalar.addi v1839 v1838
  let v1846 : BitVec 32 := Scalar.select v1844 v1845 v1839
  let c1_i32_1728 : BitVec 32 := 1#32
  let v1847 : BitVec 32 := Scalar.muli v1846 c1_i32_1728
  let v1848 : BitVec 32 := Scalar.addi c0_i32_1729 v1847
  v1848.toNat
def k0_dev91 (d0 : Dev nD) : Nat :=
  let c0_i32_1744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1734 : BitVec 32 := 29#32
  let v1855 : BitVec 32 := Scalar.addi v2 c29_i32_1734
  let c32_i32_1735 : BitVec 32 := 32#32
  let c0_i32_1736 : BitVec 32 := 0#32
  let v1856 : BitVec 1 := Scalar.cmpi .eq c32_i32_1735 c0_i32_1736
  let c1_i32_1737 : BitVec 32 := 1#32
  let v1857 : BitVec 32 := Scalar.select v1856 c1_i32_1737 c32_i32_1735
  let v1858 : BitVec 32 := Scalar.remsi v1855 v1857
  let c0_i32_1739 : BitVec 32 := 0#32
  let v1860 : BitVec 1 := Scalar.cmpi .slt v1858 c0_i32_1739
  let c0_i32_1740 : BitVec 32 := 0#32
  let v1861 : BitVec 1 := Scalar.cmpi .slt v1857 c0_i32_1740
  let v1862 : BitVec 1 := Scalar.xori v1860 v1861
  let c0_i32_1738 : BitVec 32 := 0#32
  let v1859 : BitVec 1 := Scalar.cmpi .ne v1858 c0_i32_1738
  let v1863 : BitVec 1 := Scalar.andi v1862 v1859
  let v1864 : BitVec 32 := Scalar.addi v1858 v1857
  let v1865 : BitVec 32 := Scalar.select v1863 v1864 v1858
  let c1_i32_1743 : BitVec 32 := 1#32
  let v1866 : BitVec 32 := Scalar.muli v1865 c1_i32_1743
  let v1867 : BitVec 32 := Scalar.addi c0_i32_1744 v1866
  v1867.toNat
def k0_dev92 (d0 : Dev nD) : Nat :=
  let c0_i32_1759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1749 : BitVec 32 := 30#32
  let v1874 : BitVec 32 := Scalar.addi v2 c30_i32_1749
  let c32_i32_1750 : BitVec 32 := 32#32
  let c0_i32_1751 : BitVec 32 := 0#32
  let v1875 : BitVec 1 := Scalar.cmpi .eq c32_i32_1750 c0_i32_1751
  let c1_i32_1752 : BitVec 32 := 1#32
  let v1876 : BitVec 32 := Scalar.select v1875 c1_i32_1752 c32_i32_1750
  let v1877 : BitVec 32 := Scalar.remsi v1874 v1876
  let c0_i32_1754 : BitVec 32 := 0#32
  let v1879 : BitVec 1 := Scalar.cmpi .slt v1877 c0_i32_1754
  let c0_i32_1755 : BitVec 32 := 0#32
  let v1880 : BitVec 1 := Scalar.cmpi .slt v1876 c0_i32_1755
  let v1881 : BitVec 1 := Scalar.xori v1879 v1880
  let c0_i32_1753 : BitVec 32 := 0#32
  let v1878 : BitVec 1 := Scalar.cmpi .ne v1877 c0_i32_1753
  let v1882 : BitVec 1 := Scalar.andi v1881 v1878
  let v1883 : BitVec 32 := Scalar.addi v1877 v1876
  let v1884 : BitVec 32 := Scalar.select v1882 v1883 v1877
  let c1_i32_1758 : BitVec 32 := 1#32
  let v1885 : BitVec 32 := Scalar.muli v1884 c1_i32_1758
  let v1886 : BitVec 32 := Scalar.addi c0_i32_1759 v1885
  v1886.toNat
def k0_dev93 (d0 : Dev nD) : Nat :=
  let c0_i32_1774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1764 : BitVec 32 := 31#32
  let v1893 : BitVec 32 := Scalar.addi v2 c31_i32_1764
  let c32_i32_1765 : BitVec 32 := 32#32
  let c0_i32_1766 : BitVec 32 := 0#32
  let v1894 : BitVec 1 := Scalar.cmpi .eq c32_i32_1765 c0_i32_1766
  let c1_i32_1767 : BitVec 32 := 1#32
  let v1895 : BitVec 32 := Scalar.select v1894 c1_i32_1767 c32_i32_1765
  let v1896 : BitVec 32 := Scalar.remsi v1893 v1895
  let c0_i32_1769 : BitVec 32 := 0#32
  let v1898 : BitVec 1 := Scalar.cmpi .slt v1896 c0_i32_1769
  let c0_i32_1770 : BitVec 32 := 0#32
  let v1899 : BitVec 1 := Scalar.cmpi .slt v1895 c0_i32_1770
  let v1900 : BitVec 1 := Scalar.xori v1898 v1899
  let c0_i32_1768 : BitVec 32 := 0#32
  let v1897 : BitVec 1 := Scalar.cmpi .ne v1896 c0_i32_1768
  let v1901 : BitVec 1 := Scalar.andi v1900 v1897
  let v1902 : BitVec 32 := Scalar.addi v1896 v1895
  let v1903 : BitVec 32 := Scalar.select v1901 v1902 v1896
  let c1_i32_1773 : BitVec 32 := 1#32
  let v1904 : BitVec 32 := Scalar.muli v1903 c1_i32_1773
  let v1905 : BitVec 32 := Scalar.addi c0_i32_1774 v1904
  v1905.toNat
abbrev stage0_0 : Fin 1 → Memref sig .tc .vmem S32x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 62
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x8192, .bf16⟩
  | .hbm, ⟨2, _⟩ => ⟨S2x256x128x64, .bf16⟩
  | .hbm, ⟨3, _⟩ => ⟨S2x256x128x64, .bf16⟩
  | .hbm, ⟨4, _⟩ => ⟨S8192x512, .bf16⟩
  | .hbm, ⟨5, _⟩ => ⟨S2x256x512, .f32⟩
  | .hbm, ⟨6, _⟩ => ⟨S512x8192, .f32⟩
  | .hbm, ⟨7, _⟩ => ⟨S2x256x128x64, .f32⟩
  | .hbm, ⟨8, _⟩ => ⟨S2x256x128x64, .f32⟩
  | .hbm, ⟨9, _⟩ => ⟨S8192x512, .f32⟩
  | .hbm, ⟨10, _⟩ => ⟨S2x256x8192, .f32⟩
  | .hbm, ⟨11, _⟩ => ⟨S2x256x128x64, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S2x128x256x256, .f32⟩
  | .hbm, ⟨24, _⟩ => ⟨S_, .f32⟩
  | .hbm, ⟨25, _⟩ => ⟨S2x128x256x256, .f32⟩
  | .hbm, ⟨26, _⟩ => ⟨S2x128x256x256, .f32⟩
  | .hbm, ⟨27, _⟩ => ⟨S1x1x256x256, .i1⟩
  | .hbm, ⟨28, _⟩ => ⟨S_, .f32⟩
  | .hbm, ⟨29, _⟩ => ⟨S_, .f32⟩
  | .hbm, ⟨30, _⟩ => ⟨S2x128x256x256, .i1⟩
  | .hbm, ⟨31, _⟩ => ⟨S2x128x256x256, .f32⟩
  | .hbm, ⟨32, _⟩ => ⟨S2x128x256x256, .f32⟩
  | .hbm, ⟨33, _⟩ => ⟨S_, .f32⟩
  | .hbm, ⟨34, _⟩ => ⟨S2x128x256, .f32⟩
  | .hbm, ⟨35, _⟩ => ⟨S2x128x256x1, .f32⟩
  | .hbm, ⟨36, _⟩ => ⟨S2x128x256x256, .f32⟩
  | .hbm, ⟨37, _⟩ => ⟨S2x128x256x256, .f32⟩
  | .hbm, ⟨38, _⟩ => ⟨S2x128x256x256, .f32⟩
  | .hbm, ⟨39, _⟩ => ⟨S_, .i1⟩
  | .hbm, ⟨40, _⟩ => ⟨S256, .i1⟩
  | .hbm, ⟨41, _⟩ => ⟨S1x1x256x1, .i1⟩
  | .hbm, ⟨42, _⟩ => ⟨S_, .f32⟩
  | .hbm, ⟨43, _⟩ => ⟨S2x128x256, .f32⟩
  | .hbm, ⟨44, _⟩ => ⟨S2x128x256x1, .f32⟩
  | .hbm, ⟨45, _⟩ => ⟨S_, .f32⟩
  | .hbm, ⟨46, _⟩ => ⟨S_, .f32⟩
  | .hbm, ⟨47, _⟩ => ⟨S2x128x256x1, .i1⟩
  | .hbm, ⟨48, _⟩ => ⟨S2x128x256x1, .f32⟩
  | .hbm, ⟨49, _⟩ => ⟨S2x128x256x1, .f32⟩
  | .hbm, ⟨50, _⟩ => ⟨S2x128x256x256, .f32⟩
  | .hbm, ⟨51, _⟩ => ⟨S2x128x256x256, .f32⟩
  | .hbm, ⟨52, _⟩ => ⟨S1x1x256x1, .i1⟩
  | .hbm, ⟨53, _⟩ => ⟨S_, .f32⟩
  | .hbm, ⟨54, _⟩ => ⟨S_, .f32⟩
  | .hbm, ⟨55, _⟩ => ⟨S2x128x256x256, .i1⟩
  | .hbm, ⟨56, _⟩ => ⟨S2x128x256x256, .f32⟩
  | .hbm, ⟨57, _⟩ => ⟨S2x128x256x256, .f32⟩
  | .hbm, ⟨58, _⟩ => ⟨S2x128x64x256, .f32⟩
  | .hbm, ⟨59, _⟩ => ⟨S2x256x128x64, .f32⟩
  | .hbm, ⟨60, _⟩ => ⟨S2x256x8192, .f32⟩
  | .hbm, ⟨61, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.KernelIdeal.Steps.lean ====
/- The kernel's body as three loops over the steps 1 to 31.  The printed body is unrolled; here each
   of its phases is one function of the step, and the body is the sequence of the phases.  The two
   are equal by computation. -/
module

public import proofs.«01_k».proof.Proof.Gen.KernelIdeal
public import proofs.«01_k».proof.Proof.Gen.KernelIdeal.Skeleton

@[expose] public section

noncomputable section

namespace Cert.KernelIdeal.Ring32

open Idealize.ShloMosaic Idealize.SL.Sem Cert.KernelIdeal.Gen

variable {F : FTy → Type} [FloatOps F]

/-- A program of the kernel's thread that returns nothing. -/
abbrev TProg (F : FTy → Type) [FloatOps F] : Type 1 := Prog (TpuEff nD τ sig (Elt F) Λ₀ .tc) PUnit

/-- Run `f` at the entries of a list in order, then `rest`. -/
def steps (f : Fin 31 → TProg F) : List (Fin 31) → TProg F → TProg F
  | [], rest => rest
  | k :: l, rest => f k >>= fun _ => steps f l rest

/-- The steps in order. Step number `k` of the list is the copy to the device `k + 1` places on. -/
def order : List (Fin 31) :=
  [0, 1, 2, 3, 4, 5, 6, 7, 8, 9, 10, 11, 12, 13, 14, 15, 16, 17, 18, 19, 20, 21, 22, 23, 24, 25, 26, 27, 28, 29, 30]

theorem order_nodup : order.Nodup := by decide
theorem order_toFinset : order.toFinset = Finset.univ := by decide

/-- The device each barrier signal goes to, as the kernel computes it. -/
def sigDev (d : Dev nD) : Fin 31 → Dev nD :=
  ![
    ⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩,
    ⟨k0_dev17 d, k0_dev17_lt d⟩, ⟨k0_dev18 d, k0_dev18_lt d⟩, ⟨k0_dev19 d, k0_dev19_lt d⟩, ⟨k0_dev20 d, k0_dev20_lt d⟩,
    ⟨k0_dev21 d, k0_dev21_lt d⟩, ⟨k0_dev22 d, k0_dev22_lt d⟩, ⟨k0_dev23 d, k0_dev23_lt d⟩, ⟨k0_dev24 d, k0_dev24_lt d⟩,
    ⟨k0_dev25 d, k0_dev25_lt d⟩, ⟨k0_dev26 d, k0_dev26_lt d⟩, ⟨k0_dev27 d, k0_dev27_lt d⟩, ⟨k0_dev28 d, k0_dev28_lt d⟩,
    ⟨k0_dev29 d, k0_dev29_lt d⟩, ⟨k0_dev30 d, k0_dev30_lt d⟩, ⟨k0_dev31 d, k0_dev31_lt d⟩]

/-- The device each copy of the first round goes to, as the kernel computes it. -/
def rsDev (d : Dev nD) : Fin 31 → Dev nD :=
  ![
    ⟨k0_dev32 d, k0_dev32_lt d⟩, ⟨k0_dev33 d, k0_dev33_lt d⟩, ⟨k0_dev34 d, k0_dev34_lt d⟩, ⟨k0_dev35 d, k0_dev35_lt d⟩,
    ⟨k0_dev36 d, k0_dev36_lt d⟩, ⟨k0_dev37 d, k0_dev37_lt d⟩, ⟨k0_dev38 d, k0_dev38_lt d⟩, ⟨k0_dev39 d, k0_dev39_lt d⟩,
    ⟨k0_dev40 d, k0_dev40_lt d⟩, ⟨k0_dev41 d, k0_dev41_lt d⟩, ⟨k0_dev42 d, k0_dev42_lt d⟩, ⟨k0_dev43 d, k0_dev43_lt d⟩,
    ⟨k0_dev44 d, k0_dev44_lt d⟩, ⟨k0_dev45 d, k0_dev45_lt d⟩, ⟨k0_dev46 d, k0_dev46_lt d⟩, ⟨k0_dev47 d, k0_dev47_lt d⟩,
    ⟨k0_dev48 d, k0_dev48_lt d⟩, ⟨k0_dev49 d, k0_dev49_lt d⟩, ⟨k0_dev50 d, k0_dev50_lt d⟩, ⟨k0_dev51 d, k0_dev51_lt d⟩,
    ⟨k0_dev52 d, k0_dev52_lt d⟩, ⟨k0_dev53 d, k0_dev53_lt d⟩, ⟨k0_dev54 d, k0_dev54_lt d⟩, ⟨k0_dev55 d, k0_dev55_lt d⟩,
    ⟨k0_dev56 d, k0_dev56_lt d⟩, ⟨k0_dev57 d, k0_dev57_lt d⟩, ⟨k0_dev58 d, k0_dev58_lt d⟩, ⟨k0_dev59 d, k0_dev59_lt d⟩,
    ⟨k0_dev60 d, k0_dev60_lt d⟩, ⟨k0_dev61 d, k0_dev61_lt d⟩, ⟨k0_dev62 d, k0_dev62_lt d⟩]

/-- The device each copy of the second round goes to, as the kernel computes it. -/
def agDev (d : Dev nD) : Fin 31 → Dev nD :=
  ![
    ⟨k0_dev63 d, k0_dev63_lt d⟩, ⟨k0_dev64 d, k0_dev64_lt d⟩, ⟨k0_dev65 d, k0_dev65_lt d⟩, ⟨k0_dev66 d, k0_dev66_lt d⟩,
    ⟨k0_dev67 d, k0_dev67_lt d⟩, ⟨k0_dev68 d, k0_dev68_lt d⟩, ⟨k0_dev69 d, k0_dev69_lt d⟩, ⟨k0_dev70 d, k0_dev70_lt d⟩,
    ⟨k0_dev71 d, k0_dev71_lt d⟩, ⟨k0_dev72 d, k0_dev72_lt d⟩, ⟨k0_dev73 d, k0_dev73_lt d⟩, ⟨k0_dev74 d, k0_dev74_lt d⟩,
    ⟨k0_dev75 d, k0_dev75_lt d⟩, ⟨k0_dev76 d, k0_dev76_lt d⟩, ⟨k0_dev77 d, k0_dev77_lt d⟩, ⟨k0_dev78 d, k0_dev78_lt d⟩,
    ⟨k0_dev79 d, k0_dev79_lt d⟩, ⟨k0_dev80 d, k0_dev80_lt d⟩, ⟨k0_dev81 d, k0_dev81_lt d⟩, ⟨k0_dev82 d, k0_dev82_lt d⟩,
    ⟨k0_dev83 d, k0_dev83_lt d⟩, ⟨k0_dev84 d, k0_dev84_lt d⟩, ⟨k0_dev85 d, k0_dev85_lt d⟩, ⟨k0_dev86 d, k0_dev86_lt d⟩,
    ⟨k0_dev87 d, k0_dev87_lt d⟩, ⟨k0_dev88 d, k0_dev88_lt d⟩, ⟨k0_dev89 d, k0_dev89_lt d⟩, ⟨k0_dev90 d, k0_dev90_lt d⟩,
    ⟨k0_dev91 d, k0_dev91_lt d⟩, ⟨k0_dev92 d, k0_dev92_lt d⟩, ⟨k0_dev93 d, k0_dev93_lt d⟩]

theorem row_inb (k : Fin 31) : ∀ a, (![1 + k.val, 0, 0] : Fin 3 → Nat) a + S1x64x128.size a ≤ S32x64x128.size a := by
  revert k; decide
theorem sem_inb (k : Fin 31) : ∀ a, (![1 + k.val] : Fin 1 → Nat) a + S1.size a ≤ S32.size a := by
  revert k; decide
theorem row_words : ∀ k : Fin 31, (Rect.unit (s := S32x64x128) ![1 + k.val, 0, 0] S1x64x128.size (row_inb k)).WholeWords (EltTy.packing .bf16) := by
  decide +kernel

section parts
variable (p : Memref sig .tc .vmem S32x64x128 .f32) (hp : p.IsWhole) (o : Memref sig .tc .vmem S32x64x128 .bf16) (ho : o.IsWhole)
  (b : Memref sig .tc .vmem S32x64x128 .bf16) (hb : b.IsWhole) (r : Memref sig .tc .vmem S32x64x128 .bf16) (hr : r.IsWhole)
  (sa : DmaSems sig S32)

/-- The semaphore at place `1 + k` of an array of 32. -/
abbrev semAt (k : Fin 31) : DmaSem sig :=
  ((sa.slice (Rect.unit (s := S32) ![1 + k.val] S1.size (sem_inb k))).squeeze S_ squeezes_S1_S_).sem

/-- Row `1 + k` of a buffer of 32 rows. -/
abbrev rowAt (k : Fin 31) : Memref sig .tc .vmem S1x64x128 .bf16 :=
  b.slice (Rect.unit (s := S32x64x128) ![1 + k.val, 0, 0] S1x64x128.size (row_inb k)) (fun _ => rfl)

/-- The row of a buffer that belongs to the device step `k` sends to. -/
abbrev peerRow (d : Dev nD) (k : Fin 31) : Memref sig .tc .vmem S1x64x128 .bf16 :=
  b.slice (Rect.unit (s := S32x64x128) (k0_off1 d (BitVec.ofNat 32 (1 + k.val))) S1x64x128.size (k0_off1_inb d k)) (fun _ => rfl)

/-- The device's own row of a buffer. -/
abbrev myRow (d : Dev nD) : Memref sig .tc .vmem S1x64x128 .bf16 :=
  b.slice (Rect.unit (s := S32x64x128) (k0_off3 d) S1x64x128.size (k0_off3_inb d)) (fun _ => rfl)

/-- The barrier's semaphore. -/
abbrev barSem : Sem sig := (SemArray.scalar (sig.barrier 0 rfl) : Sems sig S_).sem

/-- One signal of the barrier. -/
def sigStep (d : Dev nD) (k : Fin 31) : TProg F := semSignalWord (sigDev d k) barSem 1#32

end parts

section phases
variable (p : Memref sig .tc .vmem S32x64x128 .f32) (hp : p.IsWhole) (o : Memref sig .tc .vmem S32x64x128 .bf16) (ho : o.IsWhole)
  (b : Memref sig .tc .vmem S32x64x128 .bf16) (hb : b.IsWhole) (r : Memref sig .tc .vmem S32x64x128 .bf16) (hr : r.IsWhole)
  (s4 s5 s6 s7 : DmaSems sig S32)

/-- The start of one copy of the first round: the peer's row of the narrowed partial result, to row `1 + k` of the peer's receive buffer. -/
def rsStart (d : Dev nD) (k : Fin 31) : TProg F :=
  Prog.lift (.enqueueDma (peerRow b d k) (.remote (Dev.tc (rsDev d k)) (rowAt r k) (.dma (semAt s4 k))) (.dma (semAt s5 k))
    (hb.wordExact_slice rfl _ (k0_off1_wordsbf16 d k)) (hr.wordExact_slice rfl _ (row_words k)) ⟨⟨rfl, Or.inl rfl⟩, trivial⟩)

/-- The two waits of one copy of the first round. -/
def rsWait (d : Dev nD) (k : Fin 31) : TProg F :=
  Prog.lift (.waitDma2 (semAt s4 k) (rowAt r k) (peerRow b d k) (hr.wordExact_slice rfl _ (row_words k)) (hb.wordExact_slice rfl _ (k0_off1_wordsbf16 d k))) >>= fun _ =>
  Prog.lift (.waitDma2 (semAt s5 k) (peerRow b d k) (rowAt r k) (hb.wordExact_slice rfl _ (k0_off1_wordsbf16 d k)) (hr.wordExact_slice rfl _ (row_words k)))

/-- The start of one copy of the second round: the device's own row of the result, to the same row of the peer's. -/
def agStart (d : Dev nD) (k : Fin 31) : TProg F :=
  Prog.lift (.enqueueDma (myRow o d) (.remote (Dev.tc (agDev d k)) (myRow o d) (.dma (semAt s6 k))) (.dma (semAt s7 k))
    (ho.wordExact_slice rfl _ (k0_off3_wordsbf16 d)) (ho.wordExact_slice rfl _ (k0_off3_wordsbf16 d)) ⟨⟨rfl, Or.inl rfl⟩, trivial⟩)

/-- The two waits of one copy of the second round. -/
def agWait (d : Dev nD) (k : Fin 31) : TProg F :=
  Prog.lift (.waitDma2 (semAt s6 k) (myRow o d) (myRow o d) (ho.wordExact_slice rfl _ (k0_off3_wordsbf16 d)) (ho.wordExact_slice rfl _ (k0_off3_wordsbf16 d))) >>= fun _ =>
  Prog.lift (.waitDma2 (semAt s7 k) (myRow o d) (myRow o d) (ho.wordExact_slice rfl _ (k0_off3_wordsbf16 d)) (ho.wordExact_slice rfl _ (k0_off3_wordsbf16 d)))

/-- The narrowing of the partial result between the barrier and the first round. -/
def narrow (rest : TProg F) : TProg F := do
  let v ← Prog.lift (.load p (Rect.unit (s := S32x64x128) ![0, 0, 0] S32x64x128.size inb_S32x64x128_S32x64x128_0_0_0).toLoadRect (View.loadsAt_vmem h_S32x64x128))
  let _ ← Prog.lift (.load b (Rect.unit (s := S32x64x128) ![0, 0, 0] S32x64x128.size inb_S32x64x128_S32x64x128_0_0_0).toLoadRect (View.loadsAt_vmem h_S32x64x128))
  Prog.lift (.store b (Rect.unit (s := S32x64x128) ![0, 0, 0] S32x64x128.size inb_S32x64x128_S32x64x128_0_0_0) (k0_pay1 v) Finset.univ (View.stores_vmem h_S32x64x128 (hb.storeExact_slice rfl _ packedbf16_S32x64x128_S32x64x128_0_0_0) (fun _ => rfl)) (.inl rfl))
  rest

/-- The sum of a device's own row and the 31 received rows, stored at its own row of the result. -/
def reduce (d : Dev nD) (rest : TProg F) : TProg F := do
  let v ← Prog.lift (.load p (Rect.unit (s := S32x64x128) (k0_off2 d) S1x64x128.size (k0_off2_inb d)).toLoadRect (View.loadsAt_vmem h_S1x64x128))
  let w ← Prog.lift (.load r (Rect.unit (s := S32x64x128) ![1, 0, 0] S31x64x128.size inb_S32x64x128_S31x64x128_1_0_0).toLoadRect (View.loadsAt_vmem h_S31x64x128))
  let _ ← Prog.lift (.load o (Rect.unit (s := S32x64x128) (k0_off2 d) S1x64x128.size (k0_off2_inb d)).toLoadRect (View.loadsAt_vmem h_S1x64x128))
  Prog.lift (.store o (Rect.unit (s := S32x64x128) (k0_off2 d) S1x64x128.size (k0_off2_inb d)) (k0_pay2 v w) Finset.univ (View.stores_vmem h_S1x64x128 (ho.storeExact_slice rfl _ (k0_off2_packedbf16 d)) (fun _ => rfl)) (.inl rfl))
  rest

/-- The body on device `d`: it signals every other, waits for all of them, and the two rounds of copies follow. -/
def phasesOn (d : Dev nD) : TProg F :=
  steps (sigStep d) order do
    semWaitWord barSem 31#32
    narrow p b hb <|
      steps (rsStart b hb r hr s4 s5 d) order <|
      steps (rsWait b hb r hr s4 s5 d) order <|
      reduce p o ho r d <|
      steps (agStart o ho s6 s7 d) order <|
      steps (agWait o ho s6 s7 d) order (pure ⟨⟩)

/-- The body: the device's own number, then its phases. -/
def phases : TProg F := .op .deviceId fun d => phasesOn p o ho b hb r hr s4 s5 s6 s7 d

set_option maxRecDepth 65536 in
set_option maxHeartbeats 0 in
/-- The printed body is the phases. -/
theorem body_eq : cc0__allreduce_body (F := F) p hp o ho b hb r hr s4 s5 s6 s7 = phases p o ho b hb r hr s4 s5 s6 s7 := by
  rfl

end phases

end Cert.KernelIdeal.Ring32

end
-- ==== Proof.KernelIdeal.Cells.lean ====
/- The arithmetic of the exchange.  Which device step `k` of a device talks to and which device talks
   to it, which row of a 32-row buffer each view of the kernel is, and which semaphore of the machine
   each place of the kernel's four semaphore arrays is. -/
module

public import proofs.«01_k».proof.Proof.KernelIdeal.Steps
public import proofs.«01_k».proof.Proof.Gen.KernelIdeal.Launch
public import Idealize.ShloMosaic.Lib.Ring
public import Idealize.ShloMosaic.Lib.Transfers
public import Idealize.ShloMosaic.Lib.Pipeline.Kit
public import Idealize.ShloMosaic.Lib.Pipeline.Regions
public import Idealize.ShloMosaic.Lib.Pipeline.RegionTalk
public import Idealize.ShloMosaic.Lib.Tactic

@[expose] public section

noncomputable section

namespace Cert.KernelIdeal.Ring32

open Idealize.ShloMosaic Idealize.ShloMosaic.TcCoe Idealize.SL.Sem Cert.KernelIdeal.Gen

/-! ## Who talks to whom -/

/-- The device `k + 1` places on from `d`. -/
def peer (d : Dev nD) (k : Fin 31) : Dev nD := ⟨(d.val + 1 + k.val) % 32, Nat.mod_lt _ (by decide)⟩
/-- The device `k + 1` places back from `d`. -/
def back (d : Dev nD) (k : Fin 31) : Dev nD := ⟨(d.val + 31 - k.val) % 32, Nat.mod_lt _ (by decide)⟩
/-- The step by which the device that step `k` reaches comes back. -/
def rev (k : Fin 31) : Fin 31 := ⟨30 - k.val, by omega⟩
/-- Row `k + 1`. -/
def slot (k : Fin 31) : Fin 32 := ⟨1 + k.val, by omega⟩

theorem peer_back (d : Dev nD) (k : Fin 31) : peer (back d k) k = d := by revert d k; decide +kernel
theorem back_peer (d : Dev nD) (k : Fin 31) : back (peer d k) k = d := by revert d k; decide +kernel
theorem peer_rev (d : Dev nD) (k : Fin 31) : peer (peer d k) (rev k) = d := by revert d k; decide +kernel
theorem back_rev (d : Dev nD) (k : Fin 31) : back d (rev k) = peer d k := by revert d k; decide +kernel
theorem rev_rev (k : Fin 31) : rev (rev k) = k := by revert k; decide
theorem peer_zero (k : Fin 31) : peer 0 k = slot k := by revert k; decide

theorem sigDev_eq (d : Dev nD) (k : Fin 31) : sigDev d k = peer d k := by revert d k; decide +kernel
theorem rsDev_eq (d : Dev nD) (k : Fin 31) : rsDev d k = peer d k := by revert d k; decide +kernel
theorem agDev_eq (d : Dev nD) (k : Fin 31) : agDev d k = peer d k := by revert d k; decide +kernel
theorem off1_eq (d : Dev nD) (k : Fin 31) : k0_off1 d (BitVec.ofNat 32 (1 + k.val)) = ![(peer d k).val, 0, 0] := by
  revert d k; decide +kernel

theorem peer_inj (d : Dev nD) : Function.Injective (peer d) := by revert d; decide +kernel
theorem rev_inj : Function.Injective rev := fun a b h => by rw [← rev_rev a, h, rev_rev]

/-- The other 31 devices as the steps reach them. -/
def peerEmb (d : Dev nD) : Fin 31 ↪ Fin 32 := ⟨peer d, peer_inj d⟩
theorem others (d : Dev nD) : (Finset.univ : Finset (Fin 32)) = insert d (Finset.univ.map (peerEmb d)) := by
  revert d; decide +kernel
theorem not_own (d : Dev nD) : d ∉ Finset.univ.map (peerEmb d) := by revert d; decide +kernel

/-- The rotation of the mesh by `k + 1` places. -/
def rot (k : Fin 31) : Dev nD ≃ Dev nD := ⟨fun d => peer d k, fun d => back d k, fun d => back_peer d k, fun d => peer_back d k⟩
/-- The reversal of the steps. -/
def revE : Fin 31 ≃ Fin 31 := ⟨rev, rev, rev_rev, rev_rev⟩

/-! ## Rows -/

/-- The elements of row `i`. -/
def rowSet (i : Fin 32) : Finset S32x64x128.Idx := Finset.univ.filter fun x => (x 0).val = i.val

theorem mem_rowSet {i : Fin 32} {x : S32x64x128.Idx} : x ∈ rowSet i ↔ (x 0).val = i.val := by simp [rowSet]

theorem rowSet_disjoint (i j : Fin 32) (h : i ≠ j) : Disjoint (rowSet i) (rowSet j) :=
  Finset.disjoint_left.mpr fun x hi hj => h (Fin.ext ((mem_rowSet.mp hi).symm.trans (mem_rowSet.mp hj)))
theorem rowSet_cover : Finset.univ.biUnion rowSet = Finset.univ := by
  ext x
  exact ⟨fun _ => Finset.mem_univ _, fun _ => Finset.mem_biUnion.mpr ⟨⟨(x 0).val, (x 0).isLt⟩, Finset.mem_univ _, mem_rowSet.mpr rfl⟩⟩

theorem rect_set (off : Fin 3 → Nat) (inb) (i : Fin 32) (h : off = ![i.val, 0, 0]) :
    (Rect.unit (s := S32x64x128) off S1x64x128.size inb).set = rowSet i := by
  subst h
  ext x
  rw [Rect.mem_set_unit, mem_rowSet]
  have h1 : (x 1).val < 64 := (x 1).isLt
  have h2 : (x 2).val < 128 := (x 2).isLt
  constructor
  · intro h
    have h0 : i.val ≤ (x 0).val ∧ (x 0).val < i.val + 1 := h 0
    omega
  · intro h a
    fin_cases a
    · show i.val ≤ (x 0).val ∧ (x 0).val < i.val + 1
      omega
    · show 0 ≤ (x 1).val ∧ (x 1).val < 0 + 64
      omega
    · show 0 ≤ (x 2).val ∧ (x 2).val < 0 + 128
      omega

/-- The element of row `i` at the place `y` of a one-row block. -/
def atRow (i : Fin 32) (y : S1x64x128.Idx) : S32x64x128.Idx := fun
  | 0 => i
  | 1 => y 1
  | 2 => y 2

theorem rect_emb (off : Fin 3 → Nat) (inb) (i : Fin 32) (h : off = ![i.val, 0, 0]) (y : S1x64x128.Idx) :
    (Rect.unit (s := S32x64x128) off S1x64x128.size inb).emb y = atRow i y := by
  subst h
  have h0 : (y 0).val < 1 := (y 0).isLt
  funext a
  apply Fin.ext
  rw [Rect.emb_apply]
  fin_cases a
  · show i.val + 1 * (y 0).val = i.val; omega
  · show 0 + 1 * (y 1).val = (y 1).val; omega
  · show 0 + 1 * (y 2).val = (y 2).val; omega

/-- The rows 1 to 31. -/
def restRows : Finset S32x64x128.Idx := Finset.univ.biUnion fun k : Fin 31 => rowSet (slot k)

theorem rest_rect : (Rect.unit (s := S32x64x128) ![1, 0, 0] S31x64x128.size inb_S32x64x128_S31x64x128_1_0_0).set = restRows := by
  ext x
  rw [Rect.mem_set_unit, restRows, Finset.mem_biUnion]
  have h1 : (x 1).val < 64 := (x 1).isLt
  have h2 : (x 2).val < 128 := (x 2).isLt
  have h0 : (x 0).val < 32 := (x 0).isLt
  constructor
  · intro h
    have h0' : 1 ≤ (x 0).val ∧ (x 0).val < 1 + 31 := h 0
    exact ⟨⟨(x 0).val - 1, by omega⟩, Finset.mem_univ _, mem_rowSet.mpr (by show (x 0).val = 1 + ((x 0).val - 1); omega)⟩
  · rintro ⟨k, -, hk⟩ a
    have hk' := mem_rowSet.mp hk
    have hk2 : (x 0).val = 1 + k.val := hk'
    fin_cases a
    · show 1 ≤ (x 0).val ∧ (x 0).val < 1 + 31; omega
    · show 0 ≤ (x 1).val ∧ (x 1).val < 0 + 64; omega
    · show 0 ≤ (x 2).val ∧ (x 2).val < 0 + 128; omega

/-! ## The buffers and the views -/

/-- The staged partial result, the staged result, the narrowed partial result, and what is received. -/
abbrev pB : Memref sig .tc .vmem S32x64x128 .f32 := Memref.whole cc0_stg0_0
abbrev oB : Memref sig .tc .vmem S32x64x128 .bf16 := Memref.whole cc0_stg1_0
abbrev bB : Memref sig .tc .vmem S32x64x128 .bf16 := Memref.whole cc0_scratch0
abbrev rB : Memref sig .tc .vmem S32x64x128 .bf16 := Memref.whole cc0_scratch1

theorem rowAt_set (k : Fin 31) : (rowAt rB k).view.set = rowSet (slot k) :=
  (View.set_slice_whole _ _).trans (rect_set _ _ (slot k) rfl)
theorem peerRow_set (d : Dev nD) (k : Fin 31) : (peerRow bB d k).view.set = rowSet (peer d k) :=
  (View.set_slice_whole _ _).trans (rect_set _ _ (peer d k) (off1_eq d k))
theorem myRow_set (d : Dev nD) : (myRow oB d).view.set = rowSet d :=
  (View.set_slice_whole _ _).trans (rect_set _ _ d (k0_off3_eq d))

theorem rowAt_emb (k : Fin 31) (y : S1x64x128.Idx) : (rowAt rB k).view.emb y = atRow (slot k) y := rect_emb _ _ (slot k) rfl y
theorem peerRow_emb (d : Dev nD) (k : Fin 31) (y : S1x64x128.Idx) : (peerRow bB d k).view.emb y = atRow (peer d k) y :=
  rect_emb _ _ (peer d k) (off1_eq d k) y
theorem myRow_emb (d : Dev nD) (y : S1x64x128.Idx) : (myRow oB d).view.emb y = atRow d y := rect_emb _ _ d (k0_off3_eq d) y

/-! ## Semaphores -/

/-- The four semaphore arrays: sent and received in the first round, sent and received in the second. -/
abbrev semArr : Fin 4 → DmaSems sig S32 := fun | 0 => cc0_scratch2 | 1 => cc0_scratch3 | 2 => cc0_scratch4 | 3 => cc0_scratch5
/-- The semaphore of step `k` in array `j`. -/
abbrev dsem (j : Fin 4) (k : Fin 31) : DmaSem sig := semAt (semArr j) k

theorem dsem_val (j : Fin 4) (k : Fin 31) : (dsem j k).val = 2 + 32 * j.val + (1 + k.val) := by
  revert j k; decide +kernel

/-- Which step's semaphore of which array a semaphore of the machine is, if any. -/
def decode (sm : SemLoc sig) : Option (Fin 4 × Fin 31) :=
  match sm with
  | .reg _ => none
  | .dma s =>
    if h : 2 ≤ s.val ∧ s.val < 130 ∧ (s.val - 2) % 32 ≠ 0 then
      some (⟨(s.val - 2) / 32, by omega⟩, ⟨(s.val - 2) % 32 - 1, by omega⟩)
    else none

theorem decode_dsem (j : Fin 4) (k : Fin 31) : decode (.dma (dsem j k)) = some (j, k) := by
  have h := dsem_val j k
  have hj := j.isLt
  have hk := k.isLt
  show dite _ _ _ = _
  rw [dif_pos ⟨by omega, by omega, by omega⟩]
  congr 2 <;> apply Fin.ext <;> simp only [h] <;> omega

theorem decode_bar : decode (.reg barSem) = none := rfl

theorem dsem_inj {j j' : Fin 4} {k k' : Fin 31} (h : (SemLoc.dma (dsem j k) : SemLoc sig) = .dma (dsem j' k')) : j = j' ∧ k = k' := by
  have := (decode_dsem j k).symm.trans ((congrArg decode h).trans (decode_dsem j' k'))
  simpa using this

abbrev barCell (c : Dev nD) : GSem nD τ sig := ((c : Thread nD τ), .reg barSem)
abbrev dcell (c : Dev nD) (j : Fin 4) (k : Fin 31) : GSem nD τ sig := ((c : Thread nD τ), .dma (dsem j k))

/-- What one row's copy counts. -/
abbrev N : ℕ := (myRow oB 0).view.dmaCredit
theorem N_pos : 0 < N := View.dmaCredit_pos _ (by decide)
theorem rowAt_N (k : Fin 31) (s : DmaSem sig) : (rowAt rB k).view.amount (.dma s) = N := rfl
theorem peerRow_N (d : Dev nD) (k : Fin 31) (s : DmaSem sig) : (peerRow bB d k).view.amount (.dma s) = N := rfl
theorem myRow_N (d : Dev nD) (s : DmaSem sig) : (myRow oB d).view.amount (.dma s) = N := rfl
theorem rowAt_credit (k : Fin 31) : (rowAt rB k).view.dmaCredit = N := rfl
theorem peerRow_credit (d : Dev nD) (k : Fin 31) : (peerRow bB d k).view.dmaCredit = N := rfl
theorem myRow_credit (d : Dev nD) : (myRow oB d).view.dmaCredit = N := rfl

end Cert.KernelIdeal.Ring32

end
-- ==== Proof.KernelIdeal.Sched.lean ====
/- The protocol of the exchange: what every buffer holds at each stage, which semaphore of which device
   is raised by whom, by how much, and what those units hand to the owner of the semaphore; what a
   device owes at the start, and the order of the waits that makes it free of deadlock. -/
module

public import proofs.«01_k».proof.Proof.KernelIdeal.Cells

@[expose] public section

noncomputable section

namespace Cert.KernelIdeal.Ring32

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem
open Idealize.ShloMosaic.Rounds

variable {F : FTy → Type} [FloatOps F]

/-- The staging copies of the region and the 31 duties of the exchange, side by side. -/
abbrev UU : Type := UR sig nD τ × URounds (GSem nD τ sig) (Fin 31)

local notation "𝕄" => MT nD τ sig Unit (Elt F) ℕ UU ℕ

abbrev EP : Emb (UR sig nD τ) (MT nD τ sig Unit (Elt F) ℕ UU ℕ) := embL
abbrev ER : Emb (URounds (GSem nD τ sig) (Fin 31)) (MT nD τ sig Unit (Elt F) ℕ UU ℕ) := embR

/-! ## What the buffers hold -/

/-- The device whose row stands at row `i` of what device `c` receives. -/
def source (c : Dev nD) (i : Fin 32) : Dev nD := ⟨(c.val + 32 - i.val) % 32, Nat.mod_lt _ (by decide)⟩
theorem source_slot (c : Dev nD) (k : Fin 31) : source c (slot k) = back c k := by revert c k; decide +kernel

/-- The place in a one-row block of an element of a 32-row buffer. -/
def inRow (x : S32x64x128.Idx) : S1x64x128.Idx := fun
  | 0 => (⟨0, by decide⟩ : Fin 1)
  | 1 => x 1
  | 2 => x 2
/-- The row of an element of a 32-row buffer. -/
def rowOf (x : S32x64x128.Idx) : Fin 32 := ⟨(x 0).val, (x 0).isLt⟩
/-- The element of a 32-row buffer one row below an element of a 31-row block. -/
def below (y : S31x64x128.Idx) : S32x64x128.Idx := fun
  | 0 => ⟨1 + (y 0).val, by have h : (y 0).val < 31 := (y 0).isLt; show 1 + (y 0).val < 32; omega⟩
  | 1 => y 1
  | 2 => y 2

theorem atRow_inRow {i : Fin 32} {x : S32x64x128.Idx} (h : x ∈ rowSet i) : atRow i (inRow x) = x := by
  have h0 := mem_rowSet.mp h
  funext a
  fin_cases a
  · exact Fin.ext h0.symm
  · rfl
  · rfl
theorem rowOf_eq {i : Fin 32} {x : S32x64x128.Idx} (h : x ∈ rowSet i) : rowOf x = i := Fin.ext (mem_rowSet.mp h)
theorem rowOf_atRow (i : Fin 32) (y : S1x64x128.Idx) : rowOf (atRow i y) = i := rfl
theorem inRow_atRow (i : Fin 32) (y : S1x64x128.Idx) : inRow (atRow i y) = y := by
  have h0 : (y 0).val < 1 := (y 0).isLt
  funext a
  fin_cases a
  · exact Fin.ext (by show 0 = (y 0).val; omega)
  · rfl
  · rfl
theorem atRow_mem (i : Fin 32) (y : S1x64x128.Idx) : atRow i y ∈ rowSet i := mem_rowSet.mpr rfl

section contents
variable (P : Dev nD → Vec F S32x64x128 .f32)

/-- A device's partial result, narrowed. -/
def PB (c : Dev nD) : Vec F S32x64x128 .bf16 := k0_pay1 (P c)
/-- What a device has received once the first round is over: at each row the row of another device's partial result that is the
    receiver's. -/
def RV (c : Dev nD) : Vec F S32x64x128 .bf16 := fun x => PB P (source c (rowOf x)) (atRow c (inRow x))
/-- The row of the result a device computes: its own row of its partial result and the 31 rows received. -/
def RED (c : Dev nD) : FVec F S1x64x128 .bf16 := k0_pay2 (fun y => P c (atRow c y)) (fun y => RV P c (below y))
/-- The whole result: at each row what the device of that number computed. -/
def RS : Vec F S32x64x128 .bf16 := fun x => RED P (rowOf x) (inRow x)

end contents

/-! ## Points-tos -/

/-- Row `i` of the narrowed partial result, of the receive buffer and of the result on device `c`. -/
abbrev bRow (c : Dev nD) (i : Fin 32) (f : Vec F S32x64x128 .bf16) : sProp 𝕄 := bB.view.loc (c : Thread nD τ) ↦[rowSet i]{fullShare} f
abbrev rRow (c : Dev nD) (i : Fin 32) (f : Vec F S32x64x128 .bf16) : sProp 𝕄 := rB.view.loc (c : Thread nD τ) ↦[rowSet i]{fullShare} f
abbrev oRow (c : Dev nD) (i : Fin 32) (q : PosShare TreeShare) (f : Vec F S32x64x128 .bf16) : sProp 𝕄 := oB.view.loc (c : Thread nD τ) ↦[rowSet i]{q} f

/-! ## The schedule -/

variable (P : Dev nD → Vec F S32x64x128 .f32)

/-- Handed to device `p` by the signal of the device its step `k` reaches: the row of that device's receive buffer and the row of its
    result that step `k` of `p` writes, and that both semaphores those copies raise are open. -/
def barPay (p : Dev nD) (k : Fin 31) : sProp 𝕄 :=
  iprop((∃ f, rRow (peer p k) (slot k) f) ∗ (∃ f, oRow (peer p k) p fullShare f)
    ∗ reached ER (dcell (peer p k) 1 k) 0 ∗ reached ER (dcell (peer p k) 3 k) 0)

/-- Handed over by a copy: to the sender the row it read, to the receiver the row written. -/
def dmaPay (c : Dev nD) (j : Fin 4) (k : Fin 31) : sProp 𝕄 :=
  match j with
  | 0 => bRow c (peer c k) (PB P c)
  | 1 => rRow c (slot k) (RV P c)
  | 2 => oRow c c (Transfers.shareTok fullShare 31 k) (RS P)
  | 3 => oRow c (back c k) fullShare (RS P)

/-- One round: on a barrier one duty for each other device, on every semaphore of the four arrays that a step uses one duty. -/
def ringRd : Rounds.Schedule (GSem nD τ sig) (Fin 31) 𝕄 where
  duties g r := if r = 0 ∧ g.1.2 = .tc then
      (if g.2 = .reg barSem then Finset.univ else match decode g.2 with | some _ => {0} | none => ∅)
    else ∅
  unitless _ := False
  amount g _ _ := if g.2 = .reg barSem then 1 else N
  payload g _ d :=
    if g.2 = .reg barSem then barPay g.1.1 d
    else match decode g.2 with | some x => dmaPay P g.1.1 x.1 x.2 | none => iprop(emp)
  amount_pos g _ _ _ := by
    by_cases h : g.2 = .reg barSem
    · rw [if_pos h]; exact Nat.one_pos
    · rw [if_neg h]; exact N_pos

instance dmaPay_storable (c : Dev nD) (j : Fin 4) (k : Fin 31) : BI.Storable (upEmb : UEmb _ 𝕄) (dmaPay P c j k) := by
  unfold dmaPay
  split <;> infer_instance
instance barPay_storable (c : Dev nD) (k : Fin 31) : BI.Storable (upEmb : UEmb _ 𝕄) (barPay (F := F) c k) := by
  unfold barPay; infer_instance
instance ringRd_payload_storable (g : GSem nD τ sig) (r : ℕ) (d : Fin 31) :
    BI.Storable (upEmb : UEmb _ 𝕄) ((ringRd P).payload g r d) := by
  show BI.Storable upEmb (if g.2 = .reg barSem then barPay g.1.1 d
    else match decode g.2 with | some x => dmaPay P g.1.1 x.1 x.2 | none => iprop(emp))
  by_cases h : g.2 = .reg barSem
  · rw [if_pos h]; infer_instance
  · rw [if_neg h]; cases decode g.2 <;> infer_instance

section facts
variable (c : Dev nD) (j : Fin 4) (k d : Fin 31)

theorem dma_ne_bar (s : DmaSem sig) : (SemLoc.dma s : SemLoc sig) ≠ .reg barSem := fun h => by cases h

theorem duties_bar : (ringRd P).duties (barCell c) 0 = Finset.univ := by
  dsimp only [ringRd]; rw [if_pos ⟨rfl, rfl⟩, if_pos rfl]
theorem duties_dma : (ringRd P).duties (dcell c j k) 0 = {0} := by
  dsimp only [ringRd]; rw [if_pos ⟨rfl, rfl⟩, if_neg (dma_ne_bar _), decode_dsem]
theorem duties_later (g : GSem nD τ sig) : ∀ r, 1 ≤ r → (ringRd P).duties g r = ∅ :=
  fun r hr => by dsimp only [ringRd]; rw [if_neg (fun h => by omega)]
theorem amount_bar : (ringRd P).amount (barCell c) 0 d = 1 := by dsimp only [ringRd]; exact if_pos rfl
theorem amount_dma : (ringRd P).amount (dcell c j k) 0 d = N := by dsimp only [ringRd]; exact if_neg (dma_ne_bar _)
theorem payload_bar : (ringRd P).payload (barCell c) 0 d = barPay c d := by dsimp only [ringRd]; exact if_pos rfl
theorem payload_dma : (ringRd P).payload (dcell c j k) 0 d = dmaPay P c j k := by
  dsimp only [ringRd]; rw [if_neg (dma_ne_bar _), decode_dsem]
theorem expect_bar : (ringRd P).expect (barCell c) 0 = 31 := by
  unfold Schedule.expect Schedule.amountOf
  rw [duties_bar, Finset.sum_congr rfl fun d _ => amount_bar P c d]
  simp
theorem expect_dma : (ringRd P).expect (dcell c j k) 0 = N := by
  unfold Schedule.expect Schedule.amountOf; rw [duties_dma, Finset.sum_singleton, amount_dma]
theorem rest_bar : bigSep ((ringRd P).duties (barCell c) 0 \ ∅) (fun d => (ringRd P).payload (barCell c) 0 d)
    = bigSep Finset.univ fun d => barPay (F := F) c d := by
  rw [Finset.sdiff_empty, duties_bar]; simp only [payload_bar]
theorem rest_dma : bigSep ((ringRd P).duties (dcell c j k) 0 \ ∅) (fun d => (ringRd P).payload (dcell c j k) 0 d) = dmaPay P c j k := by
  rw [Finset.sdiff_empty, duties_dma, bigSep_singleton, payload_dma]

theorem close (κ : ℕ) (g : GSem nD τ sig) :
    iprop(cellInv ER (ringRd P) κ g ∗ atPos ER g (0 + 1) ∅ 0) ⊢ (|={Set.univ}=> semVal g 0 : sProp 𝕄) :=
  Rounds.cell_close ER (ringRd P) (Set.mem_univ κ) id (duties_later P g)

end facts

/-! ## What each device owes, and the levels -/

/-- What device `c` still owes for the steps of a list: signals, copies of the first round, copies of the second. -/
def oBar (c : Dev nD) (l : List (Fin 31)) : CellTallies nD τ sig Unit := (l.map fun k => tallyAt (barCell (peer c k)) () 1).sum
def oRs (c : Dev nD) (l : List (Fin 31)) : CellTallies nD τ sig Unit := (l.map fun k => tallyAt (dcell (peer c k) 1 k) () N).sum
def oAg (c : Dev nD) (l : List (Fin 31)) : CellTallies nD τ sig Unit := (l.map fun k => tallyAt (dcell (peer c k) 3 k) () N).sum
/-- What device `c` owes at the start. -/
def O₀ (c : Dev nD) : CellTallies nD τ sig Unit := oBar c order + (oRs c order + oAg c order)

theorem oBar_cons (c : Dev nD) (k : Fin 31) (l : List (Fin 31)) : oBar c (k :: l) = tallyAt (barCell (peer c k)) () 1 + oBar c l := by
  simp [oBar]
theorem oRs_cons (c : Dev nD) (k : Fin 31) (l : List (Fin 31)) : oRs c (k :: l) = tallyAt (dcell (peer c k) 1 k) () N + oRs c l := by
  simp [oRs]
theorem oAg_cons (c : Dev nD) (k : Fin 31) (l : List (Fin 31)) : oAg c (k :: l) = tallyAt (dcell (peer c k) 3 k) () N + oAg c l := by
  simp [oAg]
theorem oBar_nil (c : Dev nD) : oBar c [] = 0 := rfl
theorem oRs_nil (c : Dev nD) : oRs c [] = 0 := rfl
theorem oAg_nil (c : Dev nD) : oAg c [] = 0 := rfl

def L (g : GSem nD τ sig) : Finset Unit := if g.1.2 = .tc then {()} else ∅
/-- The barrier below what is received in the first round, that below what is received in the second; the rest at the bottom. -/
def lv (g : GSem nD τ sig) (_ : Unit) : ℕ :=
  if g.2 = .reg barSem then 1 else match decode g.2 with | some x => (if x.1 = 1 then 2 else if x.1 = 3 then 3 else 0) | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_dma (c : Dev nD) (j : Fin 4) (k : Fin 31) : lv (dcell c j k) () = (if j = 1 then 2 else if j = 3 then 3 else 0) := by
  unfold lv; rw [if_neg (dma_ne_bar _), decode_dsem]

/-- A cell that a sum of tallies owes is one of the sum's cells. -/
theorem owed_list (t : Fin 31 → GSem nD τ sig) (n : ℕ) (l : List (Fin 31)) (g : GSem nD τ sig) (u : Unit)
    (h : 0 < (l.map fun k => (tallyAt (t k) () n : CellTallies nD τ sig Unit)).sum g u) : ∃ k, g = t k := by
  induction l with
  | nil => exact absurd h (Nat.lt_irrefl 0)
  | cons k l ih =>
    rw [List.map_cons, List.sum_cons] at h
    by_cases hg : g = t k
    · exact ⟨k, hg⟩
    · refine ih ?_
      have h' : 0 < (tallyAt (t k) () n : CellTallies nD τ sig Unit) g u + (l.map fun k => (tallyAt (t k) () n : CellTallies nD τ sig Unit)).sum g u := h
      rw [tallyAt_apply, if_neg (fun e => hg e.1), Nat.zero_add] at h'
      exact h'

theorem owed_rs (c : Dev nD) (l : List (Fin 31)) (g : GSem nD τ sig) (u : Unit) (h : 0 < oRs c l g u) : ∃ k, g = dcell (peer c k) 1 k :=
  owed_list _ N l g u h
theorem owed_ag (c : Dev nD) (l : List (Fin 31)) (g : GSem nD τ sig) (u : Unit) (h : 0 < oAg c l g u) : ∃ k, g = dcell (peer c k) 3 k :=
  owed_list _ N l g u h
theorem owed_bar (c : Dev nD) (l : List (Fin 31)) (g : GSem nD τ sig) (u : Unit) (h : 0 < oBar c l g u) : ∃ k, g = barCell (peer c k) :=
  owed_list _ 1 l g u h

/-- The sum of the last two: every cell it owes lies above the barrier. -/
theorem owed_copies (c : Dev nD) (g : GSem nD τ sig) (u : Unit) (h : 0 < (oRs c order + oAg c order) g u) :
    () ∈ L g ∧ 1 < lv g () := by
  have h' : 0 < oRs c order g u + oAg c order g u := h
  rcases Nat.eq_zero_or_pos (oRs c order g u) with h0 | h0
  · rw [h0, Nat.zero_add] at h'
    obtain ⟨k, rfl⟩ := owed_ag c _ g u h'
    rw [L_tc, lv_dma]; exact ⟨Finset.mem_singleton_self _, by decide⟩
  · obtain ⟨k, rfl⟩ := owed_rs c _ g u h0
    rw [L_tc, lv_dma]; exact ⟨Finset.mem_singleton_self _, by decide⟩

/-- All that is owed at the start lies above the bottom. -/
theorem owed_all (c : Dev nD) (g : GSem nD τ sig) (u : Unit) (h : 0 < O₀ c g u) : () ∈ L g ∧ 0 < lv g () := by
  have h' : 0 < oBar c order g u + (oRs c order + oAg c order) g u := h
  rcases Nat.eq_zero_or_pos (oBar c order g u) with h0 | h0
  · rw [h0, Nat.zero_add] at h'
    have := owed_copies c g u h'
    exact ⟨this.1, by omega⟩
  · obtain ⟨k, rfl⟩ := owed_bar c _ g u h0
    rw [L_tc, lv_bar]; exact ⟨Finset.mem_singleton_self _, by decide⟩

theorem mayWait_bar (c : Dev nD) :
    (levAts L lv : sProp 𝕄) ⊢ MayWait (c : Thread nD τ) (.reg barSem) () (oRs c order + oAg c order) :=
  MayOwe.of_cut (L := L) (lev := lv) 1 (fun p hp => by rw [Finset.mem_singleton.mp hp, L_tc]; exact Finset.mem_singleton_self _)
    (fun g u hg => (owed_copies c g u hg).1)
    (fun p hp => by rw [Finset.mem_singleton.mp hp]; exact (lv_bar c).le)
    (fun g u hg => (owed_copies c g u hg).2)

/-- A wait of the first round, while the copies of the second are owed. -/
theorem mayWait_rs (c : Dev nD) (j : Fin 4) (hj : j = 0 ∨ j = 1) (k : Fin 31) :
    (levAts L lv : sProp 𝕄) ⊢ MayWait (c : Thread nD τ) (.dma (dsem j k)) () (oAg c order) :=
  MayOwe.of_cut (L := L) (lev := lv) 2 (fun p hp => by rw [Finset.mem_singleton.mp hp, L_tc]; exact Finset.mem_singleton_self _)
    (fun g u hg => by obtain ⟨k', rfl⟩ := owed_ag c _ g u hg; rw [L_tc]; exact Finset.mem_singleton_self _)
    (fun p hp => by rw [Finset.mem_singleton.mp hp, lv_dma]; rcases hj with rfl | rfl <;> decide)
    (fun g u hg => by obtain ⟨k', rfl⟩ := owed_ag c _ g u hg; rw [lv_dma]; decide)

end Cert.KernelIdeal.Ring32

end
-- ==== Proof.KernelIdeal.Moves.lean ====
/- One step of each phase of the exchange, proved once at an arbitrary step of an arbitrary device, and
   the rule that runs a list of steps. -/
module

public import proofs.«01_k».proof.Proof.KernelIdeal.Sched

@[expose] public section

noncomputable section

namespace Cert.KernelIdeal.Ring32

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
/-- The program's own labels. -/
abbrev D₀ : Defs nD τ sig (Elt F) Λ₀ := defs₀

/-- The weakest precondition of a program of the kernel on device `c`. -/
abbrev wpk (c : Dev nD) (p : TProg F) (Q : PUnit → sProp 𝕄) : sProp 𝕄 := wp frame (wpE (D₀ (F := F)) 𝒱₀ c none) Set.univ p Q

/-- Of a product over a set that holds everything, one factor. -/
theorem one_of {ι : Type} [Fintype ι] [DecidableEq ι] (Φ : ι → sProp 𝕄) (i : ι) : bigSep Finset.univ Φ ⊢ Φ i := BI.bigSep_elim (Finset.mem_univ i)
/-- A product over a set with one more element. -/
theorem one_more {ι : Type} [DecidableEq ι] {s : Finset ι} {i : ι} (hi : i ∉ s) (Φ : ι → sProp 𝕄) :
    bigSep (insert i s) Φ = iprop(Φ i ∗ bigSep s Φ) := BI.bigSep_insert hi

/-! ## Running a list of steps -/

/-- If one step turns `Φ k` into `Ψ k` and moves `I` from the list `k :: l` to the list `l`, the steps of a list without repeats turn
    every `Φ` into every `Ψ`. -/
theorem wp_steps (c : Dev nD) (R : sProp 𝕄) [BI.Persistent R] (f : Fin 31 → TProg F) (Φ Ψ : Fin 31 → sProp 𝕄)
    (I : List (Fin 31) → sProp 𝕄)
    (h : ∀ k l K, iprop(R ∗ Φ k ∗ I (k :: l) ∗ (Ψ k ∗ I l -∗ K ⟨⟩)) ⊢ wpk c (f k) K)
    (rest : TProg F) (Q : PUnit → sProp 𝕄) (l : List (Fin 31)) (hl : l.Nodup) :
    iprop(R ∗ bigSep l.toFinset Φ ∗ I l ∗ (bigSep l.toFinset Ψ ∗ I [] -∗ wpk c rest Q)) ⊢ wpk c (steps f l rest) Q := by
  induction l with
  | nil =>
    show _ ⊢ wpk c rest Q
    rw [List.toFinset_nil, bigSep_empty, bigSep_empty]
    iintro ⟨#HR, HΦ, HI, Hk⟩
    iapply Hk
    isplitl [HΦ]
    · iexact HΦ
    · iexact HI
  | cons k l ih =>
    have hk : k ∉ l.toFinset := fun hm => (List.nodup_cons.mp hl).1 (List.mem_toFinset.mp hm)
    show _ ⊢ wpk c (f k >>= fun _ => steps f l rest) Q
    unfold wpk
    rw [wp_bind, List.toFinset_cons, one_more hk, one_more hk]
    iintro ⟨#HR, ⟨Hk1, HΦ⟩, HI, Hk⟩
    iapply (h k l fun _ => wpk c (steps f l rest) Q)
    isplitr; · iexact HR
    isplitl [Hk1]; · iexact Hk1
    isplitl [HI]; · iexact HI
    iintro ⟨HΨ, HI⟩
    iapply (ih (List.nodup_cons.mp hl).2)
    isplitr; · iexact HR
    isplitl [HΦ]; · iexact HΦ
    isplitl [HI]; · iexact HI
    iintro ⟨HΨs, HI⟩
    iapply Hk
    isplitl [HΨ HΨs]
    · isplitl [HΨ]; · iexact HΨ
      iexact HΨs
    · iexact HI

/-! ## What every step may use -/

variable (P : Dev nD → Vec F S32x64x128 .f32)

/-- The invariants of all the semaphores, under the names `κ`. -/
def recs (κ : GSem nD τ sig → ℕ) : sProp 𝕄 :=
  iprop((bigSep Finset.univ fun c : Dev nD => cellInv ER (ringRd P) (κ (barCell c)) (barCell c))
    ∗ bigSep Finset.univ fun x : Dev nD × (Fin 4 × Fin 31) => cellInv ER (ringRd P) (κ (dcell x.1 x.2.1 x.2.2)) (dcell x.1 x.2.1 x.2.2))
instance recs_persistent (κ : GSem nD τ sig → ℕ) : BI.Persistent (recs P κ) := by unfold recs; infer_instance

theorem recs_bar (κ : GSem nD τ sig → ℕ) (c : Dev nD) : recs P κ ⊢ cellInv ER (ringRd P) (κ (barCell c)) (barCell c) := by
  unfold recs
  iintro ⟨#H, -⟩
  iapply (one_of (fun c : Dev nD => cellInv ER (ringRd P) (κ (barCell c)) (barCell c)) c)
  iexact H
theorem recs_dma (κ : GSem nD τ sig → ℕ) (c : Dev nD) (j : Fin 4) (k : Fin 31) :
    recs P κ ⊢ cellInv ER (ringRd P) (κ (dcell c j k)) (dcell c j k) := by
  unfold recs
  iintro ⟨-, #H⟩
  iapply (one_of (fun x : Dev nD × (Fin 4 × Fin 31) =>
    cellInv ER (ringRd P) (κ (dcell x.1 x.2.1 x.2.2)) (dcell x.1 x.2.1 x.2.2)) (c, (j, k)))
  iexact H

/-- That every barrier is open. -/
def bars : sProp 𝕄 := bigSep Finset.univ fun c : Dev nD => reached ER (barCell c) 0
instance bars_persistent : BI.Persistent (bars (F := F)) := by unfold bars; infer_instance
theorem bars_at (c : Dev nD) : bars (F := F) ⊢ reached ER (barCell c) 0 := by
  unfold bars
  exact one_of (fun c : Dev nD => reached ER (barCell c) 0) c
/-- That all of a device's own semaphores of the four arrays are open. -/
def opens (c : Dev nD) : sProp 𝕄 := bigSep Finset.univ fun x : Fin 4 × Fin 31 => reached ER (dcell c x.1 x.2) 0
instance opens_persistent (c : Dev nD) : BI.Persistent (opens (F := F) c) := by unfold opens; infer_instance
theorem opens_at (c : Dev nD) (j : Fin 4) (k : Fin 31) : opens (F := F) c ⊢ reached ER (dcell c j k) 0 := by
  unfold opens
  exact one_of (fun x : Fin 4 × Fin 31 => reached ER (dcell c x.1 x.2) 0) (j, k)

def ctx (κ : GSem nD τ sig → ℕ) (c : Dev nD) : sProp 𝕄 := iprop(recs P κ ∗ bars ∗ opens c ∗ levAts L lv)
instance ctx_persistent (κ : GSem nD τ sig → ℕ) (c : Dev nD) : BI.Persistent (ctx P κ c) := by unfold ctx; infer_instance

/-- What a device owes, the waits it has made left open. -/
abbrev owing (c : Dev nD) (O : CellTallies nD τ sig Unit) : sProp 𝕄 := iprop(∃ W, owes (c : Thread nD τ) O W)

/-! ## The phases -/

variable (κ : GSem nD τ sig → ℕ) (c : Dev nD)

/-- A signal takes the token of its duty and hands over what the duty carries. -/
def sigPre (k : Fin 31) : sProp 𝕄 := iprop(dutyTok ER (barCell (peer c k)) 0 (rev k) ∗ barPay (peer c k) (rev k))

theorem sig_step (X : CellTallies nD τ sig Unit) (k : Fin 31) (l : List (Fin 31)) (K : PUnit → sProp 𝕄) :
    iprop(ctx P κ c ∗ sigPre c k ∗ owing c (oBar c (k :: l) + X) ∗ (emp ∗ owing c (oBar c l + X) -∗ K ⟨⟩))
      ⊢ wpk c (sigStep (F := F) c k) K := by
  unfold sigStep ctx sigPre
  rw [sigDev_eq]
  iintro ⟨⟨#Hrec, #Hbars, -, -⟩, ⟨Htok, Hpay⟩, ⟨%W, HO⟩, Hk⟩
  iapply (Rounds.wp_signal 𝒱₀ ER (ringRd P) (c : Thread nD τ) none (dst := (peer c k : Thread nD τ)) (sem := barSem) (r := 0) (d := rev k)
      (κ := κ (barCell (peer c k))) (by rw [duties_bar]; exact Finset.mem_univ _) (amount_bar P (peer c k) (rev k)) () (O₀ := oBar c (k :: l) + X)
      (oBar c l + X) (by rw [oBar_cons, add_assoc, add_comm])) $$ [HO Htok Hpay]
  · isplitr; · iapply (recs_bar P κ (peer c k)); iexact Hrec
    isplitl [HO]; · iexact HO
    isplitl [Htok]; · iexact Htok
    isplitl [Hpay]; · rw [payload_bar]; iexact Hpay
    · iapply (bars_at (peer c k)); iexact Hbars
  iintro HO
  rw [wp_ret]
  imodintro
  iapply Hk
  isplitr; · iempintro
  iexists W
  iexact HO

/-- What a copy of the first round takes: the row it reads, the row it writes, the tokens of its two duties. -/
def rsPre (k : Fin 31) : sProp 𝕄 :=
  iprop(bRow c (peer c k) (PB P c) ∗ (∃ f, rRow (peer c k) (slot k) f)
    ∗ dutyTok ER (dcell c 0 k) 0 0 ∗ dutyTok ER (dcell (peer c k) 1 k) 0 0 ∗ reached ER (dcell (peer c k) 1 k) 0)
/-- What the starts of the copies on device `c` leave for the waits on their completion. -/
def sent (j : Fin 4) (k : Fin 31) : sProp 𝕄 := cred (tallyAt (dcell c j k) () N)

/-- The row written at the peer is row `k + 1` of what the peer is to receive. -/
theorem rs_landed (k : Fin 31) (fd : Vec F S32x64x128 .bf16) (x : S32x64x128.Idx) (hx : x ∈ rowSet (slot k)) :
    (rowAt rB k).view.write (Elt F) fd ((peerRow bB c k).view.read (Elt F) (PB P c)) Finset.univ x = RV P (peer c k) x := by
  rw [← atRow_inRow hx, ← rowAt_emb k, View.write_emb, View.read_apply, peerRow_emb, rowAt_emb, if_pos (Finset.mem_univ _)]
  show PB P c (atRow (peer c k) (inRow x)) = PB P (source (peer c k) (rowOf (atRow (slot k) (inRow x)))) (atRow (peer c k) (inRow (atRow (slot k) (inRow x))))
  rw [rowOf_atRow, inRow_atRow, source_slot, back_peer]

/-- The start of a copy of the first round to device `e`. -/
def rsTo (e : Dev nD) (k : Fin 31) : TProg F :=
  Prog.lift (.enqueueDma (peerRow bB c k) (.remote (Dev.tc e) (rowAt rB k) (.dma (dsem 0 k))) (.dma (dsem 1 k))
    ((Memref.isWhole_whole cc0_scratch0).wordExact_slice rfl _ (k0_off1_wordsbf16 c k))
    ((Memref.isWhole_whole cc0_scratch1).wordExact_slice rfl _ (row_words k)) ⟨⟨rfl, Or.inl rfl⟩, trivial⟩)
theorem rsStart_eq (k : Fin 31) :
    rsStart (F := F) bB (Memref.isWhole_whole _) rB (Memref.isWhole_whole _) cc0_scratch2 cc0_scratch3 c k = rsTo c (peer c k) k :=
  congrArg (fun e => rsTo (F := F) c e k) (rsDev_eq c k)

theorem rsStart_step (X : CellTallies nD τ sig Unit) (k : Fin 31) (l : List (Fin 31)) (K : PUnit → sProp 𝕄) :
    iprop(ctx P κ c ∗ rsPre P c k ∗ owing c (oRs c (k :: l) + X) ∗ (sent c 0 k ∗ owing c (oRs c l + X) -∗ K ⟨⟩))
      ⊢ wpk c (rsStart (F := F) bB (Memref.isWhole_whole _) rB (Memref.isWhole_whole _) cc0_scratch2 cc0_scratch3 c k) K := by
  rw [rsStart_eq]
  unfold rsTo ctx rsPre
  iintro ⟨⟨#Hrec, -, #Hown, -⟩, ⟨Hsrc, ⟨%fd, Hdst⟩, Ht0, Ht1, #Hr1⟩, ⟨%W, HO⟩, Hk⟩
  iapply (Rounds.wp_send_pointsTo 𝒱₀ ER (ringRd P) (c : Thread nD τ) none (c' := (peer c k : Thread nD τ)) (src := peerRow bB c k) (dst := rowAt rB k)
      (sS := .dma (dsem 0 k)) (sem := .dma (dsem 1 k)) (q := fullShare) (fs := PB P c)
      (κ₁ := κ (dcell c 0 k)) (κ₂ := κ (dcell (peer c k) 1 k))
      (r₁ := 0) (r₂ := 0) (d₁ := 0) (d₂ := 0) (fd := fd)
      (by rw [duties_dma]; exact Finset.mem_singleton_self _) (by rw [duties_dma]; exact Finset.mem_singleton_self _)
      () () N rfl (amount_dma P c 0 k 0) (amount_dma P (peer c k) 1 k 0) (O₀ := oRs c (k :: l) + X) (oRs c l + X)
      (by rw [oRs_cons, add_assoc, add_comm]) (W := W)
      (by rw [payload_dma, peerRow_set]; exact BI.Entails.refl _)
      (by
        rw [payload_dma, rowAt_set]
        exact Entails.of_eq (pointsTo_congr fun x hx => rs_landed P c k fd x hx))) $$ [Hsrc Hdst HO Ht0 Ht1]
  · isplitr; · iapply (recs_dma P κ c 0 k); iexact Hrec
    isplitr; · iapply (recs_dma P κ (peer c k) 1 k); iexact Hrec
    isplitl [Hsrc]; · rw [peerRow_set]; iexact Hsrc
    isplitl [Hdst]; · rw [rowAt_set]; iexact Hdst
    isplitl [HO]; · iexact HO
    isplitl [Ht0]; · iexact Ht0
    isplitr; · iapply (opens_at c 0 k); iexact Hown
    isplitl [Ht1]; · iexact Ht1
    · iexact Hr1
  iintro ⟨Hc, HO⟩
  rw [wp_ret]
  imodintro
  iapply Hk
  isplitl [Hc]; · unfold sent; iexact Hc
  iexists W
  iexact HO

/-- The two waits of a copy: the credits and the positions they use. -/
def waitPre (j j' : Fin 4) (k : Fin 31) : sProp 𝕄 :=
  iprop(sent c j k ∗ cred (tallyAt (dcell c j' k) () N) ∗ atPos ER (dcell c j k) 0 ∅ 0 ∗ atPos ER (dcell c j' k) 0 ∅ 0)
/-- What they bring: the positions one round on, and what the two copies carried. -/
def waitPost (j j' : Fin 4) (k : Fin 31) : sProp 𝕄 :=
  iprop((atPos ER (dcell c j k) (0 + 1) ∅ 0 ∗ atPos ER (dcell c j' k) (0 + 1) ∅ 0) ∗ dmaPay P c j k ∗ dmaPay P c j' k)

theorem rsWait_step (k : Fin 31) (l : List (Fin 31)) (K : PUnit → sProp 𝕄) :
    iprop(ctx P κ c ∗ waitPre c 0 1 k ∗ owing c (oAg c order) ∗ (waitPost P c 0 1 k ∗ owing c (oAg c order) -∗ K ⟨⟩))
      ⊢ wpk c (rsWait (F := F) bB (Memref.isWhole_whole _) rB (Memref.isWhole_whole _) cc0_scratch2 cc0_scratch3 c k) K := by
  unfold rsWait ctx waitPre sent
  iintro ⟨⟨#Hrec, -, -, #Hlev⟩, ⟨Hc0, Hc1, Ha0, Ha1⟩, ⟨%W, HO⟩, Hk⟩
  iapply (Rounds.wp_wait_rest_token 𝒱₀ ER (ringRd P) (c : Thread nD τ) none (κ := κ (dcell c 0 k))
      (wpE_waitDma2_eq 𝒱₀ (c : Thread nD τ) none Set.univ) (Set.mem_univ _) () (O := oAg c order) (W := W) (R := 0) (m := 0) (T := ∅)
      (k' := (peerRow bB c k).view.dmaCredit) ((Nat.zero_add _).trans (Eq.trans (peerRow_credit c k) (expect_dma P c 0 k).symm))) $$ [Hc0 HO Ha0]
  · isplitr; · iapply (recs_dma P κ c 0 k); iexact Hrec
    isplitl [Hc0]; · rw [peerRow_credit]; iexact Hc0
    isplitl [HO]; · iexact HO
    isplitr; · iapply (mayWait_rs c 0 (.inl rfl) k); iexact Hlev
    iexact Ha0
  iintro ⟨HO, Ha0, -, Hp0⟩
  iapply (Rounds.wp_wait_rest_token 𝒱₀ ER (ringRd P) (c : Thread nD τ) none (κ := κ (dcell c 1 k))
      (wpE_waitDma2_eq 𝒱₀ (c : Thread nD τ) none Set.univ) (Set.mem_univ _) () (O := oAg c order)
      (W := insert (SemLoc.dma (dsem 0 k), ()) W) (R := 0) (m := 0) (T := ∅)
      (k' := (rowAt rB k).view.dmaCredit) ((Nat.zero_add _).trans (Eq.trans (rowAt_credit k) (expect_dma P c 1 k).symm))) $$ [Hc1 HO Ha1]
  · isplitr; · iapply (recs_dma P κ c 1 k); iexact Hrec
    isplitl [Hc1]; · rw [rowAt_credit]; iexact Hc1
    isplitl [HO]; · iexact HO
    isplitr; · iapply (mayWait_rs c 1 (.inr rfl) k); iexact Hlev
    iexact Ha1
  iintro ⟨HO, Ha1, -, Hp1⟩
  rw [wp_ret]
  imodintro
  iapply Hk
  isplitr [HO]
  · unfold waitPost
    isplitl [Ha0 Ha1]
    · isplitl [Ha0]; · iexact Ha0
      iexact Ha1
    isplitl [Hp0]
    · iapply (Entails.of_eq (rest_dma P c 0 k)); iexact Hp0
    · iapply (Entails.of_eq (rest_dma P c 1 k)); iexact Hp1
  · iexists _
    iexact HO

/-- What a copy of the second round takes: a share of the device's own row of the result, the row it writes, the tokens of its duties. -/
def agPre (k : Fin 31) : sProp 𝕄 :=
  iprop(oRow c c (Transfers.shareTok fullShare 31 k) (RS P) ∗ (∃ f, oRow (peer c k) c fullShare f)
    ∗ dutyTok ER (dcell c 2 k) 0 0 ∗ dutyTok ER (dcell (peer c k) 3 k) 0 0 ∗ reached ER (dcell (peer c k) 3 k) 0)

/-- The row written at the peer is that row of the whole result. -/
theorem ag_landed (fd : Vec F S32x64x128 .bf16) (x : S32x64x128.Idx) (hx : x ∈ rowSet c) :
    (myRow oB c).view.write (Elt F) fd ((myRow oB c).view.read (Elt F) (RS P)) Finset.univ x = RS P x := by
  rw [← atRow_inRow hx, ← myRow_emb c, View.write_emb, View.read_apply, if_pos (Finset.mem_univ _)]
  rfl

/-- The start of a copy of the second round to device `e`. -/
def agTo (e : Dev nD) (k : Fin 31) : TProg F :=
  Prog.lift (.enqueueDma (myRow oB c) (.remote (Dev.tc e) (myRow oB c) (.dma (dsem 2 k))) (.dma (dsem 3 k))
    ((Memref.isWhole_whole cc0_stg1_0).wordExact_slice rfl _ (k0_off3_wordsbf16 c))
    ((Memref.isWhole_whole cc0_stg1_0).wordExact_slice rfl _ (k0_off3_wordsbf16 c)) ⟨⟨rfl, Or.inl rfl⟩, trivial⟩)
theorem agStart_eq (k : Fin 31) :
    agStart (F := F) oB (Memref.isWhole_whole _) cc0_scratch4 cc0_scratch5 c k = agTo c (peer c k) k :=
  congrArg (fun e => agTo (F := F) c e k) (agDev_eq c k)

theorem agStart_step (k : Fin 31) (l : List (Fin 31)) (K : PUnit → sProp 𝕄) :
    iprop(ctx P κ c ∗ agPre P c k ∗ owing c (oAg c (k :: l)) ∗ (sent c 2 k ∗ owing c (oAg c l) -∗ K ⟨⟩))
      ⊢ wpk c (agStart (F := F) oB (Memref.isWhole_whole _) cc0_scratch4 cc0_scratch5 c k) K := by
  rw [agStart_eq]
  unfold agTo ctx agPre
  iintro ⟨⟨#Hrec, -, #Hown, -⟩, ⟨Hsrc, ⟨%fd, Hdst⟩, Ht0, Ht1, #Hr1⟩, ⟨%W, HO⟩, Hk⟩
  iapply (Rounds.wp_send_pointsTo 𝒱₀ ER (ringRd P) (c : Thread nD τ) none (c' := (peer c k : Thread nD τ)) (src := myRow oB c) (dst := myRow oB c)
      (sS := .dma (dsem 2 k)) (sem := .dma (dsem 3 k)) (q := Transfers.shareTok fullShare 31 k) (fs := RS P)
      (κ₁ := κ (dcell c 2 k)) (κ₂ := κ (dcell (peer c k) 3 k))
      (r₁ := 0) (r₂ := 0) (d₁ := 0) (d₂ := 0) (fd := fd)
      (by rw [duties_dma]; exact Finset.mem_singleton_self _) (by rw [duties_dma]; exact Finset.mem_singleton_self _)
      () () N rfl (amount_dma P c 2 k 0) (amount_dma P (peer c k) 3 k 0) (O₀ := oAg c (k :: l)) (oAg c l)
      (by rw [oAg_cons, add_comm]) (W := W)
      (by rw [payload_dma, myRow_set]; exact BI.Entails.refl _)
      (by
        rw [payload_dma, myRow_set]
        show _ ⊢ oRow (peer c k) (back (peer c k) k) fullShare (RS P)
        rw [back_peer]
        exact Entails.of_eq (pointsTo_congr fun x hx => ag_landed P c fd x hx))) $$ [Hsrc Hdst HO Ht0 Ht1]
  · isplitr; · iapply (recs_dma P κ c 2 k); iexact Hrec
    isplitr; · iapply (recs_dma P κ (peer c k) 3 k); iexact Hrec
    isplitl [Hsrc]; · rw [myRow_set]; iexact Hsrc
    isplitl [Hdst]; · rw [myRow_set]; iexact Hdst
    isplitl [HO]; · iexact HO
    isplitl [Ht0]; · iexact Ht0
    isplitr; · iapply (opens_at c 2 k); iexact Hown
    isplitl [Ht1]; · iexact Ht1
    · iexact Hr1
  iintro ⟨Hc, HO⟩
  rw [wp_ret]
  imodintro
  iapply Hk
  isplitl [Hc]; · unfold sent; iexact Hc
  iexists W
  iexact HO

theorem agWait_step (k : Fin 31) (l : List (Fin 31)) (K : PUnit → sProp 𝕄) :
    iprop(ctx P κ c ∗ waitPre c 2 3 k ∗ owing c 0 ∗ (waitPost P c 2 3 k ∗ owing c 0 -∗ K ⟨⟩))
      ⊢ wpk c (agWait (F := F) oB (Memref.isWhole_whole _) cc0_scratch4 cc0_scratch5 c k) K := by
  unfold agWait ctx waitPre sent
  iintro ⟨⟨#Hrec, -, -, #Hlev⟩, ⟨Hc0, Hc1, Ha0, Ha1⟩, ⟨%W, HO⟩, Hk⟩
  iapply (Rounds.wp_wait_rest_token 𝒱₀ ER (ringRd P) (c : Thread nD τ) none (κ := κ (dcell c 2 k))
      (wpE_waitDma2_eq 𝒱₀ (c : Thread nD τ) none Set.univ) (Set.mem_univ _) () (O := 0) (W := W) (R := 0) (m := 0) (T := ∅)
      (k' := (myRow oB c).view.dmaCredit) ((Nat.zero_add _).trans (Eq.trans (myRow_credit c) (expect_dma P c 2 k).symm))) $$ [Hc0 HO Ha0]
  · isplitr; · iapply (recs_dma P κ c 2 k); iexact Hrec
    isplitl [Hc0]; · rw [myRow_credit]; iexact Hc0
    isplitl [HO]; · iexact HO
    isplitr; · iapply (Entails.of_eq (MayWait_zero (c : Thread nD τ) _ ()).symm); iempintro
    iexact Ha0
  iintro ⟨HO, Ha0, -, Hp0⟩
  iapply (Rounds.wp_wait_rest_token 𝒱₀ ER (ringRd P) (c : Thread nD τ) none (κ := κ (dcell c 3 k))
      (wpE_waitDma2_eq 𝒱₀ (c : Thread nD τ) none Set.univ) (Set.mem_univ _) () (O := 0)
      (W := insert (SemLoc.dma (dsem 2 k), ()) W) (R := 0) (m := 0) (T := ∅)
      (k' := (myRow oB c).view.dmaCredit) ((Nat.zero_add _).trans (Eq.trans (myRow_credit c) (expect_dma P c 3 k).symm))) $$ [Hc1 HO Ha1]
  · isplitr; · iapply (recs_dma P κ c 3 k); iexact Hrec
    isplitl [Hc1]; · rw [myRow_credit]; iexact Hc1
    isplitl [HO]; · iexact HO
    isplitr; · iapply (Entails.of_eq (MayWait_zero (c : Thread nD τ) _ ()).symm); iempintro
    iexact Ha1
  iintro ⟨HO, Ha1, -, Hp1⟩
  rw [wp_ret]
  imodintro
  iapply Hk
  isplitr [HO]
  · unfold waitPost
    isplitl [Ha0 Ha1]
    · isplitl [Ha0]; · iexact Ha0
      iexact Ha1
    isplitl [Hp0]
    · iapply (Entails.of_eq (rest_dma P c 2 k)); iexact Hp0
    · iapply (Entails.of_eq (rest_dma P c 3 k)); iexact Hp1
  · iexists _
    iexact HO

end Cert.KernelIdeal.Ring32

end
-- ==== Proof.KernelIdeal.Body.lean ====
/- The body of the kernel, run on one device: from what the launch hands it to the whole result on that
   device, every semaphore back at zero and nothing owed. -/
module

public import proofs.«01_k».proof.Proof.KernelIdeal.Moves

@[expose] public section

noncomputable section

namespace Cert.KernelIdeal.Ring32

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting a buffer into rows -/

/-- A product over the devices, one of them taken out: the rest as the steps of that one reach them. -/
theorem by_steps (d : Dev nD) (Φ : Fin 32 → sProp 𝕄) :
    bigSep Finset.univ Φ = iprop(Φ d ∗ bigSep Finset.univ fun k : Fin 31 => Φ (peer d k)) := by
  rw [others d, one_more (not_own d), BI.bigSep_map]
  rfl
theorem by_slots (Φ : Fin 32 → sProp 𝕄) :
    bigSep Finset.univ Φ = iprop(Φ 0 ∗ bigSep Finset.univ fun k : Fin 31 => Φ (slot k)) := by
  rw [by_steps 0]; simp only [peer_zero]
/-- A product over the steps, the steps taken backwards. -/
theorem backwards (Φ : Fin 31 → sProp 𝕄) : bigSep Finset.univ Φ = bigSep Finset.univ fun k => Φ (rev k) :=
  BI.bigSep_univ_equiv revE Φ
/-- A product over the semaphores of the four arrays, array by array. -/
theorem by_array (Φ : Fin 4 × Fin 31 → sProp 𝕄) :
    bigSep Finset.univ Φ = iprop((bigSep Finset.univ fun k => Φ (0, k)) ∗ (bigSep Finset.univ fun k => Φ (1, k))
      ∗ (bigSep Finset.univ fun k => Φ (2, k)) ∗ bigSep Finset.univ fun k => Φ (3, k)) := by
  rw [BI.bigSep_univ_prod, show (Finset.univ : Finset (Fin 4)) = insert 0 (insert 1 (insert 2 {3})) by decide,
    one_more (by decide), one_more (by decide), one_more (by decide), BI.bigSep_singleton]
theorem zip2 (Φ Ψ : Fin 31 → sProp 𝕄) : bigSep Finset.univ (fun k => iprop(Φ k ∗ Ψ k)) = iprop(bigSep Finset.univ Φ ∗ bigSep Finset.univ Ψ) :=
  bigSep_sep' _ _ _

/-- The three buffers of 32 rows, whole. -/
abbrev pAll (c : Dev nD) (f : Vec F S32x64x128 .f32) : sProp 𝕄 := pB.view.loc (c : Thread nD τ) ↦{fullShare} f
abbrev bAll (c : Dev nD) (f : Vec F S32x64x128 .bf16) : sProp 𝕄 := bB.view.loc (c : Thread nD τ) ↦{fullShare} f
abbrev rAll (c : Dev nD) (f : Vec F S32x64x128 .bf16) : sProp 𝕄 := rB.view.loc (c : Thread nD τ) ↦{fullShare} f
abbrev oAll (c : Dev nD) (f : Vec F S32x64x128 .bf16) : sProp 𝕄 := oB.view.loc (c : Thread nD τ) ↦{fullShare} f

theorem bAll_rows (c : Dev nD) (f : Vec F S32x64x128 .bf16) : bAll c f = iprop(bRow c c f ∗ bigSep Finset.univ fun k => bRow c (peer c k) f) :=
  (Ring.pointsTo_blocks (ℓ := bB.view.loc (c : Thread nD τ)) rowSet rowSet_disjoint rowSet_cover f).trans (by_steps c fun i => bRow c i f)
theorem rAll_rows (c : Dev nD) (f : Vec F S32x64x128 .bf16) : rAll c f = iprop(rRow c 0 f ∗ bigSep Finset.univ fun k => rRow c (slot k) f) :=
  (Ring.pointsTo_blocks (ℓ := rB.view.loc (c : Thread nD τ)) rowSet rowSet_disjoint rowSet_cover f).trans (by_slots fun i => rRow c i f)
theorem oAll_rows (c : Dev nD) (f : Vec F S32x64x128 .bf16) :
    oAll c f = iprop(oRow c c fullShare f ∗ bigSep Finset.univ fun k => oRow c (peer c k) fullShare f) :=
  (Ring.pointsTo_blocks (ℓ := oB.view.loc (c : Thread nD τ)) rowSet rowSet_disjoint rowSet_cover f).trans (by_steps c fun i => oRow c i fullShare f)

/-- The received rows, together. -/
abbrev rRest (c : Dev nD) (f : Vec F S32x64x128 .bf16) : sProp 𝕄 := rB.view.loc (c : Thread nD τ) ↦[restRows]{fullShare} f
theorem slot_inj {k k' : Fin 31} (h : k ≠ k') : slot k ≠ slot k' := by
  intro e
  have := congrArg Fin.val e
  exact h (Fin.ext (by simp only [slot] at this; omega))
theorem rRest_rows (c : Dev nD) (f : Vec F S32x64x128 .bf16) : rRest c f = bigSep Finset.univ fun k => rRow c (slot k) f :=
  Ring.pointsTo_sub_blocks (ℓ := rB.view.loc (c : Thread nD τ)) (fun k => rowSet (slot k)) (fun k k' h => rowSet_disjoint _ _ (slot_inj h)) restRows rfl f

/-- Row 0 as it was and the received rows make the receive buffer whole. -/
theorem rAll_join (c : Dev nD) (f g : Vec F S32x64x128 .bf16) :
    iprop(rRow c 0 f ∗ bigSep Finset.univ fun k => rRow c (slot k) g) ⊢ (iprop(∃ h, rAll c h) : sProp 𝕄) := by
  have h0 : rRow c 0 f = (rRow c 0 (fun x => if (x 0).val = 0 then f x else g x) : sProp 𝕄) :=
    pointsTo_congr fun x hx => (if_pos (mem_rowSet.mp hx)).symm
  have h1 : ∀ k, rRow c (slot k) g = (rRow c (slot k) (fun x => if (x 0).val = 0 then f x else g x) : sProp 𝕄) := fun k =>
    pointsTo_congr fun x hx => (if_neg (fun e => by
      have := mem_rowSet.mp hx
      have h2 : (slot k).val = 1 + k.val := rfl
      omega)).symm
  rw [h0]
  simp only [h1]
  iintro H
  iexists fun x => if (x 0).val = 0 then f x else g x
  rw [rAll_rows]
  iexact H

/-- The device's own row of the result in 31 shares and a remainder. -/
theorem oRow_shares (c : Dev nD) (f : Vec F S32x64x128 .bf16) :
    oRow c c fullShare f ⊣⊢ (iprop(oRow c c (Transfers.shareDrop fullShare 31) f
      ∗ bigSep Finset.univ fun k : Fin 31 => oRow c c (Transfers.shareTok fullShare 31 k) f) : sProp 𝕄) :=
  Transfers.pointsTo_toks (ℓ := oB.view.loc (c : Thread nD τ)) (S := rowSet c) (f := f) fullShare 31

/-! ## The two computations -/

variable (P : Dev nD → Vec F S32x64x128 .f32) (κ : GSem nD τ sig → ℕ) (c : Dev nD)

theorem zeros3 : (![0, 0, 0] : Fin 3 → Nat) = fun _ => 0 := by funext a; fin_cases a <;> rfl

abbrev allRect : Rect S32x64x128 := Rect.unit (s := S32x64x128) ![0, 0, 0] S32x64x128.size inb_S32x64x128_S32x64x128_0_0_0
/-- The store of the narrowed value, over the whole buffer. -/
theorem narrow_value (f : Vec F S32x64x128 .bf16) :
    (bB.access allRect).write (Elt F) f (k0_pay1 ((pB.access allRect).read (Elt F) (P c))) Finset.univ = PB P c :=
  (congrArg (fun v => (bB.access allRect).write (Elt F) f (k0_pay1 v) Finset.univ)
    (Memref.read_access_unit_zero (Elt F) (sig := sig) (κ := .tc) cc0_stg0_0 zeros3 inb_S32x64x128_S32x64x128_0_0_0 (P c))).trans
    (Memref.write_access_unit_zero_univ (Elt F) (sig := sig) (κ := .tc) cc0_scratch0 zeros3 inb_S32x64x128_S32x64x128_0_0_0 f (PB P c))

theorem narrow_step (hb : bB.IsWhole) (f : Vec F S32x64x128 .bf16) (rest : TProg F) (Q : PUnit → sProp 𝕄) :
    iprop(pAll c (P c) ∗ bAll c f ∗ (pAll c (P c) ∗ bAll c (PB P c) -∗ wpk c rest Q)) ⊢ wpk c (narrow pB bB hb rest) Q := by
  unfold narrow
  iintro ⟨Hp, Hb, Hk⟩
  iapply (wp_load_rect 𝒱₀ (c : Thread nD τ) none Set.univ (m := pB)
    (r := Rect.unit (s := S32x64x128) ![0, 0, 0] S32x64x128.size inb_S32x64x128_S32x64x128_0_0_0) (S := Finset.univ) (Finset.subset_univ _)) $$ Hp
  iintro Hp
  iapply (wp_load_rect 𝒱₀ (c : Thread nD τ) none Set.univ (m := bB)
    (r := Rect.unit (s := S32x64x128) ![0, 0, 0] S32x64x128.size inb_S32x64x128_S32x64x128_0_0_0) (S := Finset.univ) (Finset.subset_univ _)) $$ Hb
  iintro Hb
  iapply (wp_store 𝒱₀ (c : Thread nD τ) none Set.univ (m := bB)
    (r := Rect.unit (s := S32x64x128) ![0, 0, 0] S32x64x128.size inb_S32x64x128_S32x64x128_0_0_0) (S := Finset.univ) (Finset.subset_univ _)) $$ Hb
  iintro Hb
  iapply Hk
  isplitl [Hp]; · iexact Hp
  iapply (Entails.of_eq (congrArg (fun g => bAll c g) (narrow_value P c f)))
  iexact Hb

theorem reduce_read (y : S1x64x128.Idx) :
    (pB.access (Rect.unit (s := S32x64x128) (k0_off2 c) S1x64x128.size (k0_off2_inb c))).read (Elt F) (P c) y = P c (atRow c y) := by
  rw [View.read_apply]
  show P c ((Rect.unit (s := S32x64x128) (k0_off2 c) S1x64x128.size (k0_off2_inb c)).emb y) = _
  rw [rect_emb _ _ c (k0_off2_eq c)]

theorem reduce_read' (y : S31x64x128.Idx) :
    (rB.access (Rect.unit (s := S32x64x128) ![1, 0, 0] S31x64x128.size inb_S32x64x128_S31x64x128_1_0_0)).read (Elt F) (RV P c) y = RV P c (below y) := by
  rw [View.read_apply]
  show RV P c ((Rect.unit (s := S32x64x128) ![1, 0, 0] S31x64x128.size inb_S32x64x128_S31x64x128_1_0_0).emb y) = _
  congr 1
  funext a
  apply Fin.ext
  rw [Rect.emb_apply]
  fin_cases a
  · show 1 + 1 * (y 0).val = 1 + (y 0).val; omega
  · show 0 + 1 * (y 1).val = (y 1).val; omega
  · show 0 + 1 * (y 2).val = (y 2).val; omega

abbrev ownRect : Rect S32x64x128 := Rect.unit (s := S32x64x128) (k0_off2 c) S1x64x128.size (k0_off2_inb c)
theorem ownRect_set : (oB.access (ownRect c)).set = rowSet c :=
  (View.set_slice_whole _ _).trans (rect_set _ _ c (k0_off2_eq c))
theorem ownRect_emb (y : S1x64x128.Idx) : (oB.access (ownRect c)).emb y = atRow c y := rect_emb _ _ c (k0_off2_eq c) y

/-- The store of the reduced row. -/
theorem reduce_value (f : Vec F S32x64x128 .bf16) (x : S32x64x128.Idx) (hx : x ∈ rowSet c) :
    (oB.access (ownRect c)).write (Elt F) f (k0_pay2 ((pB.access (ownRect c)).read (Elt F) (P c))
      ((rB.access (Rect.unit (s := S32x64x128) ![1, 0, 0] S31x64x128.size inb_S32x64x128_S31x64x128_1_0_0)).read (Elt F) (RV P c))) Finset.univ x = RS P x := by
  have e1 : (pB.access (ownRect c)).read (Elt F) (P c) = fun y => P c (atRow c y) := funext (reduce_read P c)
  have e2 : (rB.access (Rect.unit (s := S32x64x128) ![1, 0, 0] S31x64x128.size inb_S32x64x128_S31x64x128_1_0_0)).read (Elt F) (RV P c)
      = fun y => RV P c (below y) := funext (reduce_read' P c)
  rw [e1, e2, ← atRow_inRow hx, ← ownRect_emb c, View.write_emb, if_pos (Finset.mem_univ _), ownRect_emb]
  show RED P c (inRow x) = RED P (rowOf (atRow c (inRow x))) (inRow (atRow c (inRow x)))
  rw [rowOf_atRow, inRow_atRow]

theorem reduce_step (ho : oB.IsWhole) (f : Vec F S32x64x128 .bf16) (rest : TProg F) (Q : PUnit → sProp 𝕄) :
    iprop(pAll c (P c) ∗ rRest c (RV P c) ∗ oRow c c fullShare f
        ∗ (pAll c (P c) ∗ rRest c (RV P c) ∗ oRow c c fullShare (RS P) -∗ wpk c rest Q))
      ⊢ wpk c (reduce pB oB ho rB c rest) Q := by
  unfold reduce
  iintro ⟨Hp, Hr, Ho, Hk⟩
  iapply (wp_load_rect 𝒱₀ (c : Thread nD τ) none Set.univ (m := pB) (r := ownRect c) (S := Finset.univ) (Finset.subset_univ _)) $$ Hp
  iintro Hp
  iapply (wp_load_rect 𝒱₀ (c : Thread nD τ) none Set.univ (m := rB)
    (r := Rect.unit (s := S32x64x128) ![1, 0, 0] S31x64x128.size inb_S32x64x128_S31x64x128_1_0_0) (S := restRows)
    ((View.set_slice_whole _ _).trans rest_rect).le) $$ Hr
  iintro Hr
  iapply (wp_load_rect 𝒱₀ (c : Thread nD τ) none Set.univ (m := oB) (r := ownRect c) (S := rowSet c) (ownRect_set c).le) $$ Ho
  iintro Ho
  iapply (wp_store 𝒱₀ (c : Thread nD τ) none Set.univ (m := oB) (r := ownRect c) (S := rowSet c) (ownRect_set c).le) $$ Ho
  iintro Ho
  iapply Hk
  isplitl [Hp]; · iexact Hp
  isplitl [Hr]; · iexact Hr
  iapply (Entails.of_eq (pointsTo_congr fun x hx => reduce_value P c f x hx))
  iexact Ho

end Cert.KernelIdeal.Ring32

end
-- ==== Proof.KernelIdeal.Whole.lean ====
/- The kernel's body run from beginning to end on one device. -/
module

public import proofs.«01_k».proof.Proof.KernelIdeal.Body

@[expose] public section

noncomputable section

namespace Cert.KernelIdeal.Ring32

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- All 31 steps in order. -/
theorem wp_order (c : Dev nD) (R : sProp 𝕄) [BI.Persistent R] (f : Fin 31 → TProg F) (Φ Ψ : Fin 31 → sProp 𝕄)
    (I : List (Fin 31) → sProp 𝕄)
    (h : ∀ k l K, iprop(R ∗ Φ k ∗ I (k :: l) ∗ (Ψ k ∗ I l -∗ K ⟨⟩)) ⊢ wpk c (f k) K)
    (rest : TProg F) (Q : PUnit → sProp 𝕄) :
    iprop(R ∗ bigSep Finset.univ Φ ∗ I order ∗ (bigSep Finset.univ Ψ ∗ I [] -∗ wpk c rest Q)) ⊢ wpk c (steps f order rest) Q := by
  have := wp_steps c R f Φ Ψ I h rest Q order order_nodup
  rwa [order_toFinset] at this

variable (P : Dev nD → Vec F S32x64x128 .f32) (κ : GSem nD τ sig → ℕ) (c : Dev nD)

/-- The tokens of the duties device `c` discharges at step `k`: the signal, and at both ends of both copies. -/
def stepToks (k : Fin 31) : sProp 𝕄 :=
  iprop(dutyTok ER (barCell (peer c k)) 0 (rev k)
    ∗ (dutyTok ER (dcell c 0 k) 0 0 ∗ dutyTok ER (dcell (peer c k) 1 k) 0 0)
    ∗ (dutyTok ER (dcell c 2 k) 0 0 ∗ dutyTok ER (dcell (peer c k) 3 k) 0 0))
/-- The credits of what others will raise at device `c`. -/
def stepCreds (k : Fin 31) : sProp 𝕄 :=
  iprop(cred (tallyAt (dcell c 1 k) () N) ∗ cred (tallyAt (dcell c 3 k) () N))

/-- What the body starts from. -/
def bodyPre : sProp 𝕄 :=
  iprop(ctx P κ c ∗ atPos ER (barCell c) 0 ∅ 0 ∗ (bigSep Finset.univ fun x : Fin 4 × Fin 31 => atPos ER (dcell c x.1 x.2) 0 ∅ 0)
    ∗ bigSep Finset.univ (stepToks c) ∗ cred (tallyAt (barCell c) () 31) ∗ bigSep Finset.univ (stepCreds c)
    ∗ pAll c (P c) ∗ (∃ f, bAll c f) ∗ (∃ f, rAll c f) ∗ (∃ f, oAll c f) ∗ owing c (O₀ c))
/-- What it ends with. -/
def bodyPost : sProp 𝕄 :=
  iprop(semVal (barCell c) 0 ∗ (bigSep Finset.univ fun x : Fin 4 × Fin 31 => semVal (dcell c x.1 x.2) 0)
    ∗ pAll c (P c) ∗ (∃ f, bAll c f) ∗ (∃ f, rAll c f) ∗ oAll c (RS P) ∗ owing c 0)

/-- A fact that may be used again turns each factor of a product. -/
theorem each {I : Type} [DecidableEq I] (R : sProp 𝕄) [BI.Persistent R] (Φ Ψ : I → sProp 𝕄) (h : ∀ k, iprop(R ∗ Φ k) ⊢ Ψ k) (s : Finset I) :
    iprop(R ∗ bigSep s Φ) ⊢ bigSep s Ψ := by
  induction s using Finset.induction_on with
  | empty =>
    rw [BI.bigSep_empty, BI.bigSep_empty]
    iintro ⟨-, H⟩
    iexact H
  | insert k s hk ih =>
    rw [one_more hk, one_more hk]
    iintro ⟨#HR, Hk, Hs⟩
    isplitl [Hk]
    · iapply (h k)
      isplitr; · iexact HR
      iexact Hk
    · iapply ih
      isplitr; · iexact HR
      iexact Hs

/-- An entailment at each factor of a product. -/
theorem every (Φ Ψ : Fin 31 → sProp 𝕄) (h : ∀ k, Φ k ⊢ Ψ k) : bigSep Finset.univ Φ ⊢ bigSep Finset.univ Ψ :=
  BI.bigSep_mono fun k _ => h k

/-- The rows that arrived, as the rows of the other devices. -/
theorem all_rows : (bigSep Finset.univ fun k => dmaPay P c 3 k) = (bigSep Finset.univ fun k => oRow c (peer c k) fullShare (RS P) : sProp 𝕄) := by
  rw [backwards (fun k => dmaPay P c 3 k)]
  refine bigSep_congr fun k _ => ?_
  show oRow c (back c (rev k)) fullShare (RS P) = _
  rw [back_rev]

/-- What device `c` hands over with its signals: row `k + 1` of its receive buffer and the row of its result that belongs to a device
    that sends to it. -/
theorem signals_ready (f g : Vec F S32x64x128 .bf16) :
    iprop(opens c ∗ (bigSep Finset.univ fun k => dutyTok ER (barCell (peer c k)) 0 (rev k))
        ∗ (bigSep Finset.univ fun k => rRow c (slot k) f) ∗ bigSep Finset.univ fun k => oRow c (peer c k) fullShare g)
      ⊢ (bigSep Finset.univ (sigPre c) : sProp 𝕄) := by
  rw [backwards (fun k => rRow c (slot k) f)]
  iintro ⟨#Hown, Ht, Hr, Ho⟩
  ihave H := (Entails.of_eq (zip2 _ _).symm) $$ [Hr Ho]
  · isplitl [Hr]; · iexact Hr
    iexact Ho
  ihave H := (Entails.of_eq (zip2 _ _).symm) $$ [Ht H]
  · isplitl [Ht]; · iexact Ht
    iexact H
  iapply (each (opens c) (fun k => iprop(dutyTok ER (barCell (peer c k)) 0 (rev k) ∗ rRow c (slot (rev k)) f ∗ oRow c (peer c k) fullShare g)) (sigPre c) (fun k => by
    unfold sigPre barPay
    rw [peer_rev]
    iintro ⟨#Hown, Ht, Hr, Ho⟩
    isplitl [Ht]; · iexact Ht
    isplitl [Hr]; · iexists f; iexact Hr
    isplitl [Ho]; · iexists g; iexact Ho
    isplitr; · iapply (opens_at c 1 (rev k)); iexact Hown
    · iapply (opens_at c 3 (rev k)); iexact Hown) Finset.univ)
  isplitr; · iexact Hown
  iexact H

/-- With what the signals of the others brought, the copies of the first round can start; the rows of the second are kept. -/
theorem rs_ready :
    iprop((bigSep Finset.univ fun k => barPay (F := F) c k) ∗ (bigSep Finset.univ fun k => bRow c (peer c k) (PB P c))
        ∗ bigSep Finset.univ fun k => iprop(dutyTok ER (dcell c 0 k) 0 0 ∗ dutyTok ER (dcell (peer c k) 1 k) 0 0))
      ⊢ (iprop(bigSep Finset.univ (rsPre P c)
        ∗ bigSep Finset.univ fun k => iprop((∃ f, oRow (peer c k) c fullShare f) ∗ reached ER (dcell (peer c k) 3 k) 0)) : sProp 𝕄) := by
  rw [← zip2, ← zip2, ← zip2]
  refine every _ _ fun k => ?_
  unfold barPay rsPre
  iintro ⟨⟨Hr, Ho, #Hr1, #Hr3⟩, Hb, Ht0, Ht1⟩
  isplitl [Hr Hb Ht0 Ht1]
  · isplitl [Hb]; · iexact Hb
    isplitl [Hr]; · iexact Hr
    isplitl [Ht0]; · iexact Ht0
    isplitl [Ht1]; · iexact Ht1
    iexact Hr1
  · isplitl [Ho]; · iexact Ho
    iexact Hr3

/-- A share of its own row for each of them, and the copies of the second round can start. -/
theorem ag_ready :
    iprop((bigSep Finset.univ fun k => iprop((∃ f, oRow (peer c k) c fullShare f) ∗ reached ER (dcell (peer c k) 3 k) 0))
        ∗ (bigSep Finset.univ fun k : Fin 31 => oRow c c (Transfers.shareTok fullShare 31 k) (RS P))
        ∗ bigSep Finset.univ fun k => iprop(dutyTok ER (dcell c 2 k) 0 0 ∗ dutyTok ER (dcell (peer c k) 3 k) 0 0))
      ⊢ (bigSep Finset.univ (agPre P c) : sProp 𝕄) := by
  rw [← zip2, ← zip2]
  refine every _ _ fun k => ?_
  unfold agPre
  iintro ⟨⟨Ho, #Hr3⟩, Hs, Ht0, Ht1⟩
  isplitl [Hs]; · iexact Hs
  isplitl [Ho]; · iexact Ho
  isplitl [Ht0]; · iexact Ht0
  isplitl [Ht1]; · iexact Ht1
  iexact Hr3

/-- The waits of a round have all they use. -/
theorem wait_ready (j j' : Fin 4) :
    iprop(bigSep Finset.univ (sent (F := F) c j) ∗ (bigSep Finset.univ fun k => cred (tallyAt (dcell c j' k) () N))
        ∗ (bigSep Finset.univ fun k => atPos ER (dcell c j k) 0 ∅ 0) ∗ bigSep Finset.univ fun k => atPos ER (dcell c j' k) 0 ∅ 0)
      ⊢ (bigSep Finset.univ (waitPre c j j') : sProp 𝕄) := by
  rw [← zip2, ← zip2, ← zip2]
  exact every _ _ fun k => BI.Entails.refl _
theorem wait_done (j j' : Fin 4) :
    bigSep Finset.univ (waitPost P c j j')
      ⊢ (iprop(((bigSep Finset.univ fun k => atPos ER (dcell c j k) (0 + 1) ∅ 0) ∗ bigSep Finset.univ fun k => atPos ER (dcell c j' k) (0 + 1) ∅ 0)
        ∗ (bigSep Finset.univ fun k => dmaPay P c j k) ∗ bigSep Finset.univ fun k => dmaPay P c j' k) : sProp 𝕄) := by
  rw [← zip2, ← zip2, ← zip2]
  exact every _ _ fun k => BI.Entails.refl _

/-- The semaphores of one array are all returned to zero. -/
theorem close_array (j : Fin 4) :
    iprop(recs P κ ∗ bigSep Finset.univ fun k => atPos ER (dcell c j k) (0 + 1) ∅ 0)
      ⊢ (|={Set.univ}=> bigSep Finset.univ fun k => semVal (dcell c j k) 0 : sProp 𝕄) :=
  (each (recs P κ) (fun k => atPos ER (dcell c j k) (0 + 1) ∅ 0) (fun k => iprop(|={Set.univ}=> semVal (dcell c j k) 0)) (fun k => by
    iintro ⟨#Hrec, Ha⟩
    iapply (close P (κ (dcell c j k)) (dcell c j k))
    isplitr; · iapply (recs_dma P κ c j k); iexact Hrec
    iexact Ha) Finset.univ).trans (bigSep_fupd _ _)

set_option maxHeartbeats 1600000 in
/-- Nothing is left to do. -/
theorem at_end (c : Dev nD) (Kt : PUnit → sProp 𝕄) : Kt ⟨⟩ ⊢ wpk (F := F) c (.ret ⟨⟩) Kt := by
  unfold wpk
  rw [wp_ret]
  iintro H; imodintro; iexact H

/-- The body takes `bodyPre` to `bodyPost`. -/
theorem bodyRun (hp : pB.IsWhole) (ho : oB.IsWhole) (Kt : PUnit → sProp 𝕄) :
    iprop(bodyPre P κ c ∗ (bodyPost P c -∗ Kt ⟨⟩))
      ⊢ wpk c (phases (F := F) pB oB ho bB (Memref.isWhole_whole _) rB (Memref.isWhole_whole _) cc0_scratch2 cc0_scratch3 cc0_scratch4 cc0_scratch5) Kt := by
  unfold phases wpk
  rw [wp_deviceId]
  unfold phasesOn bodyPre
  iintro ⟨⟨#Hctx, HaB, Ha, Ht, HcB, Hc, Hp, ⟨%fb, Hb⟩, ⟨%fr, Hr⟩, ⟨%fo, Ho⟩, HO⟩, Hk⟩
  ihave #Hctx' := (Entails.of_eq (show ctx P κ c = iprop(recs P κ ∗ bars ∗ opens c ∗ levAts L lv) from rfl)) $$ Hctx
  icases Hctx' with ⟨#Hrec, -, #Hown, #Hlev⟩
  unfold stepToks stepCreds
  ihave Ht := (Entails.of_eq (zip2 _ _)) $$ Ht
  icases Ht with ⟨HtB, Ht⟩
  ihave Ht := (Entails.of_eq (zip2 _ _)) $$ Ht
  icases Ht with ⟨HtRs, HtAg⟩
  ihave Hc := (Entails.of_eq (zip2 _ _)) $$ Hc
  icases Hc with ⟨HcRs, HcAg⟩
  ihave Ha := (Entails.of_eq (by_array _)) $$ Ha
  icases Ha with ⟨Ha0, Ha1, Ha2, Ha3⟩
  ihave Hr := (Entails.of_eq (rAll_rows c fr)) $$ Hr
  icases Hr with ⟨Hr0, Hr⟩
  ihave Ho := (Entails.of_eq (oAll_rows c fo)) $$ Ho
  icases Ho with ⟨Hoc, Ho⟩
  -- the signals
  iapply (wp_order c (ctx P κ c) (sigStep c) (sigPre c) (fun _ => iprop(emp)) (fun l => owing c (oBar c l + (oRs c order + oAg c order)))
    (sig_step P κ c (oRs c order + oAg c order)))
  isplitr; · iexact Hctx
  isplitl [HtB Hr Ho]
  · iapply (signals_ready c fr fo)
    isplitr; · iexact Hown
    isplitl [HtB]; · iexact HtB
    isplitl [Hr]; · iexact Hr
    iexact Ho
  isplitl [HO]; · iexact HO
  iintro ⟨-, ⟨%W, HO⟩⟩
  -- the barrier
  ihave HO := (Entails.of_eq (congrArg (fun O => owes (c : Thread nD τ) O W) (show oBar c [] + (oRs c order + oAg c order) = oRs c order + oAg c order by
    rw [oBar_nil, zero_add]))) $$ HO
  iapply (Rounds.wp_wait_rest_token 𝒱₀ ER (ringRd P) (c : Thread nD τ) none (κ := κ (barCell c)) (k' := 31)
      (wpE_semWait_eq 𝒱₀ (c : Thread nD τ) none Set.univ) (Set.mem_univ _) () (O := oRs c order + oAg c order) (W := W) (R := 0) (m := 0) (T := ∅)
      ((Nat.zero_add 31).trans (expect_bar P c).symm)) $$ [HcB HO HaB]
  · isplitr; · iapply (recs_bar P κ c); iexact Hrec
    isplitl [HcB]; · iexact HcB
    isplitl [HO]; · iexact HO
    isplitr; · iapply (mayWait_bar c); iexact Hlev
    iexact HaB
  iintro ⟨HO, HaB, -, Hpay⟩
  ihave Hpay := (Entails.of_eq (rest_bar P c)) $$ Hpay
  -- the narrowing
  iapply (narrow_step P c (Memref.isWhole_whole _) fb)
  isplitl [Hp]; · iexact Hp
  isplitl [Hb]; · iexact Hb
  iintro ⟨Hp, Hb⟩
  ihave Hb := (Entails.of_eq (bAll_rows c (PB P c))) $$ Hb
  icases Hb with ⟨Hbc, Hb⟩
  ihave H := (rs_ready P c) $$ [Hpay Hb HtRs]
  · isplitl [Hpay]; · iexact Hpay
    isplitl [Hb]; · iexact Hb
    iexact HtRs
  icases H with ⟨HRs, HAg⟩
  -- the first round
  iapply (wp_order c (ctx P κ c) (rsStart bB (Memref.isWhole_whole _) rB (Memref.isWhole_whole _) cc0_scratch2 cc0_scratch3 c) (rsPre P c) (sent c 0)
    (fun l => owing c (oRs c l + oAg c order)) (rsStart_step P κ c (oAg c order)))
  isplitr; · iexact Hctx
  isplitl [HRs]; · iexact HRs
  isplitl [HO]; · iexists _; iexact HO
  iintro ⟨Hs, ⟨%W', HO⟩⟩
  ihave HO := (Entails.of_eq (congrArg (fun O => owes (c : Thread nD τ) O W') (show oRs c [] + oAg c order = oAg c order by
    rw [oRs_nil, zero_add]))) $$ HO
  iapply (wp_order c (ctx P κ c) (rsWait bB (Memref.isWhole_whole _) rB (Memref.isWhole_whole _) cc0_scratch2 cc0_scratch3 c) (waitPre c 0 1) (waitPost P c 0 1)
    (fun _ => owing c (oAg c order)) (rsWait_step P κ c))
  isplitr; · iexact Hctx
  isplitl [Hs HcRs Ha0 Ha1]
  · iapply (wait_ready c 0 1)
    isplitl [Hs]; · iexact Hs
    isplitl [HcRs]; · iexact HcRs
    isplitl [Ha0]; · iexact Ha0
    iexact Ha1
  isplitl [HO]; · iexists _; iexact HO
  iintro ⟨H, HO⟩
  ihave H := (wait_done P c 0 1) $$ H
  icases H with ⟨⟨Ha0, Ha1⟩, Hb, Hr⟩
  ihave Hr := (Entails.of_eq (show (bigSep Finset.univ fun k => dmaPay P c 1 k) = rRest c (RV P c) from (rRest_rows c (RV P c)).symm)) $$ Hr
  ihave Hb := (Entails.of_eq (show (bigSep Finset.univ fun k => dmaPay P c 0 k) = bigSep Finset.univ fun k => bRow c (peer c k) (PB P c) from rfl)) $$ Hb
  -- the sum
  iapply (reduce_step P c ho fo)
  isplitl [Hp]; · iexact Hp
  isplitl [Hr]; · iexact Hr
  isplitl [Hoc]; · iexact Hoc
  iintro ⟨Hp, Hr, Hoc⟩
  ihave Hr := (Entails.of_eq (rRest_rows c (RV P c))) $$ Hr
  ihave Hoc := (oRow_shares c (RS P)).1 $$ Hoc
  icases Hoc with ⟨Hoc, Hos⟩
  -- the second round
  iapply (wp_order c (ctx P κ c) (agStart oB ho cc0_scratch4 cc0_scratch5 c) (agPre P c) (sent c 2)
    (fun l => owing c (oAg c l)) (agStart_step P κ c))
  isplitr; · iexact Hctx
  isplitl [HAg Hos HtAg]
  · iapply (ag_ready P c)
    isplitl [HAg]; · iexact HAg
    isplitl [Hos]; · iexact Hos
    iexact HtAg
  isplitl [HO]; · iexact HO
  iintro ⟨Hs, HO⟩
  iapply (wp_order c (ctx P κ c) (agWait oB ho cc0_scratch4 cc0_scratch5 c) (waitPre c 2 3) (waitPost P c 2 3)
    (fun _ => owing c 0) (agWait_step P κ c))
  isplitr; · iexact Hctx
  isplitl [Hs HcAg Ha2 Ha3]
  · iapply (wait_ready c 2 3)
    isplitl [Hs]; · iexact Hs
    isplitl [HcAg]; · iexact HcAg
    isplitl [Ha2]; · iexact Ha2
    iexact Ha3
  isplitl [HO]; · iexact HO
  iintro ⟨H, HO⟩
  ihave H := (wait_done P c 2 3) $$ H
  icases H with ⟨⟨Ha2, Ha3⟩, Hos, Hor⟩
  ihave Hos := (Entails.of_eq (show (bigSep Finset.univ fun k => dmaPay P c 2 k)
    = bigSep Finset.univ fun k : Fin 31 => oRow c c (Transfers.shareTok fullShare 31 k) (RS P) from rfl)) $$ Hos
  -- every semaphore back to zero, every buffer whole
  imod (close P (κ (barCell c)) (barCell c)) $$ [HaB] with HvB
  · isplitr; · iapply (recs_bar P κ c); iexact Hrec
    iexact HaB
  imod (close_array P κ c 0) $$ [Ha0] with Hv0
  · isplitr; · iexact Hrec
    iexact Ha0
  imod (close_array P κ c 1) $$ [Ha1] with Hv1
  · isplitr; · iexact Hrec
    iexact Ha1
  imod (close_array P κ c 2) $$ [Ha2] with Hv2
  · isplitr; · iexact Hrec
    iexact Ha2
  imod (close_array P κ c 3) $$ [Ha3] with Hv3
  · isplitr; · iexact Hrec
    iexact Ha3
  iapply (at_end c Kt)
  iapply Hk
  unfold bodyPost
  isplitl [HvB]; · iexact HvB
  isplitl [Hv0 Hv1 Hv2 Hv3]
  · iapply (Entails.of_eq (by_array _).symm)
    isplitl [Hv0]; · iexact Hv0
    isplitl [Hv1]; · iexact Hv1
    isplitl [Hv2]; · iexact Hv2
    iexact Hv3
  isplitl [Hp]; · iexact Hp
  isplitl [Hbc Hb]
  · iexists (PB P c)
    iapply (Entails.of_eq (bAll_rows c (PB P c)).symm)
    isplitl [Hbc]; · iexact Hbc
    iexact Hb
  isplitl [Hr0 Hr]
  · iapply (rAll_join c fr (RV P c))
    isplitl [Hr0]; · iexact Hr0
    iexact Hr
  isplitl [Hoc Hos Hor]
  · iapply (Entails.of_eq (oAll_rows c (RS P)).symm)
    isplitl [Hoc Hos]
    · iapply (oRow_shares c (RS P)).2
      isplitl [Hoc]; · iexact Hoc
      iexact Hos
    · iapply (Entails.of_eq (all_rows P c))
      iexact Hor
  iexact HO

end Cert.KernelIdeal.Ring32

end
-- ==== Proof.KernelIdeal.Launch.lean ====
/- What every device is given at the start: the protocol's records and tokens dealt out, and the credits
   of what others will raise. -/
module

public import proofs.«01_k».proof.Proof.KernelIdeal.Whole

@[expose] public section

noncomputable section

namespace Cert.KernelIdeal.Ring32

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores and the tokens -/

/-- The semaphores of the four arrays that a step uses, as the region's own. -/
def osem (x : Fin 4 × Fin 31) : SemLoc sig := .dma (dsem x.1 x.2)

def barEmb : Dev nD ↪ GSem nD τ sig := ⟨fun c => barCell c, fun _ _ h => congrArg (fun g : GSem nD τ sig => g.1.1) h⟩
def scEmb : Dev nD × (Fin 4 × Fin 31) ↪ GSem nD τ sig :=
  ⟨fun y => dcell y.1 y.2.1 y.2.2, fun a b h => Prod.ext (congrArg (fun g : GSem nD τ sig => g.1.1) h)
    (Prod.ext (dsem_inj (congrArg Prod.snd h)).1 (dsem_inj (congrArg Prod.snd h)).2)⟩

/-- The barriers, and the semaphores of the copies. -/
abbrev barCells : Finset (GSem nD τ sig) := Finset.univ.map barEmb
abbrev scCells : Finset (GSem nD τ sig) := Finset.univ.map scEmb

theorem cells_disjoint : Disjoint (barCells : Finset (GSem nD τ sig)) scCells := by
  rw [Finset.disjoint_left]
  intro g h₁ h₂
  obtain ⟨c, -, rfl⟩ := Finset.mem_map.mp h₁
  obtain ⟨y, -, h⟩ := Finset.mem_map.mp h₂
  exact dma_ne_bar _ (congrArg Prod.snd h)

/-- The tokens of the barriers' duties and of the copies'. -/
def barToks : Dev nD × Fin 31 ↪ GSem nD τ sig × ℕ × Fin 31 :=
  ⟨fun y => (barCell y.1, 0, y.2), fun a b h => Prod.ext (congrArg (fun t : GSem nD τ sig × ℕ × Fin 31 => t.1.1.1) h)
    (congrArg (fun t : GSem nD τ sig × ℕ × Fin 31 => t.2.2) h)⟩
def dmaToks : Dev nD × (Fin 4 × Fin 31) ↪ GSem nD τ sig × ℕ × Fin 31 :=
  ⟨fun y => (dcell y.1 y.2.1 y.2.2, 0, 0), fun a b h => scEmb.injective (congrArg Prod.fst h)⟩
abbrev toks : Finset (GSem nD τ sig × ℕ × Fin 31) := Finset.univ.map barToks ∪ Finset.univ.map dmaToks

theorem toks_disjoint : Disjoint (Finset.univ.map barToks) (Finset.univ.map dmaToks) := by
  rw [Finset.disjoint_left]
  intro t h₁ h₂
  obtain ⟨y, -, rfl⟩ := Finset.mem_map.mp h₁
  obtain ⟨z, -, h⟩ := Finset.mem_map.mp h₂
  exact dma_ne_bar _ (congrArg (fun t : GSem nD τ sig × ℕ × Fin 31 => t.1.2) h)

/-! ## The tokens, each at the device that spends it -/

/-- A product over the devices and one over the steps, in either order. -/
theorem swap (Φ : Dev nD → Fin 31 → sProp 𝕄) :
    bigSep Finset.univ (fun c => bigSep Finset.univ fun k => Φ c k) = bigSep Finset.univ fun k => bigSep Finset.univ fun c => Φ c k := by
  rw [← BI.bigSep_univ_prod fun x : Dev nD × Fin 31 => Φ x.1 x.2, ← BI.bigSep_univ_prod fun x : Fin 31 × Dev nD => Φ x.2 x.1]
  exact BI.bigSep_univ_equiv (Equiv.prodComm (Fin 31) (Dev nD)) fun x : Dev nD × Fin 31 => Φ x.1 x.2

/-- What is dealt by owner and step is dealt by the device whose step reaches the owner. -/
theorem around (Φ : Dev nD → Fin 31 → sProp 𝕄) :
    bigSep Finset.univ (fun c => bigSep Finset.univ fun k => Φ c k)
      = bigSep Finset.univ fun c => bigSep Finset.univ fun k => Φ (peer c k) k := by
  rw [swap, swap (fun c k => Φ (peer c k) k)]
  exact bigSep_congr fun k _ => BI.bigSep_univ_equiv (rot k) (fun c => Φ c k)

theorem two_pairs (A B C D : sProp 𝕄) : iprop(A ∗ B ∗ C ∗ D) = iprop((A ∗ B) ∗ C ∗ D) := by
  have h : iprop(A ∗ B ∗ C ∗ D) ⊢ iprop((A ∗ B) ∗ C ∗ D) := by
    iintro ⟨HA, HB, HC, HD⟩
    isplitl [HA HB]
    · isplitl [HA] <;> iassumption
    isplitl [HC] <;> iassumption
  have h' : iprop((A ∗ B) ∗ C ∗ D) ⊢ iprop(A ∗ B ∗ C ∗ D) := by
    iintro ⟨⟨HA, HB⟩, HC, HD⟩
    isplitl [HA]; · iexact HA
    isplitl [HB]; · iexact HB
    isplitl [HC] <;> iassumption
  exact BI.Entails.antisymm h h'

/-- All the tokens, each at the device that spends it. -/
theorem toks_dealt : bigSep toks (fun t => (dutyTok ER t.1 t.2.1 t.2.2 : sProp 𝕄))
    = bigSep Finset.univ fun c : Dev nD => bigSep Finset.univ (stepToks (F := F) c) := by
  have hbar : (bigSep Finset.univ fun c : Dev nD => bigSep Finset.univ fun k => (dutyTok ER (barCell c) 0 k : sProp 𝕄))
      = bigSep Finset.univ fun c : Dev nD => bigSep Finset.univ fun k => dutyTok ER (barCell (peer c k)) 0 (rev k) := by
    rw [bigSep_congr (s := Finset.univ) fun (c : Dev nD) _ => backwards (F := F) fun k => dutyTok ER (barCell c) 0 k]
    exact around fun c k => dutyTok ER (barCell c) 0 (rev k)
  have harr (c : Dev nD) : (bigSep Finset.univ fun x : Fin 4 × Fin 31 => (dutyTok ER (dcell c x.1 x.2) 0 0 : sProp 𝕄))
      = iprop((bigSep Finset.univ fun k => dutyTok ER (dcell c 0 k) 0 0) ∗ (bigSep Finset.univ fun k => dutyTok ER (dcell c 1 k) 0 0)
        ∗ (bigSep Finset.univ fun k => dutyTok ER (dcell c 2 k) 0 0) ∗ bigSep Finset.univ fun k => dutyTok ER (dcell c 3 k) 0 0) := by_array _
  have hsum (c : Dev nD) : bigSep Finset.univ (stepToks (F := F) c)
      = iprop((bigSep Finset.univ fun k => dutyTok ER (barCell (peer c k)) 0 (rev k))
        ∗ ((bigSep Finset.univ fun k => dutyTok ER (dcell c 0 k) 0 0) ∗ bigSep Finset.univ fun k => dutyTok ER (dcell (peer c k) 1 k) 0 0)
        ∗ ((bigSep Finset.univ fun k => dutyTok ER (dcell c 2 k) 0 0) ∗ bigSep Finset.univ fun k => dutyTok ER (dcell (peer c k) 3 k) 0 0)) := by
    unfold stepToks
    rw [zip2, zip2, zip2, zip2]
  rw [BI.bigSep_union toks_disjoint, BI.bigSep_map, BI.bigSep_map, BI.bigSep_univ_prod, BI.bigSep_univ_prod]
  show iprop((bigSep Finset.univ fun c : Dev nD => bigSep Finset.univ fun k => (dutyTok ER (barCell c) 0 k : sProp 𝕄))
    ∗ bigSep Finset.univ fun c : Dev nD => bigSep Finset.univ fun x : Fin 4 × Fin 31 => dutyTok ER (dcell c x.1 x.2) 0 0) = _
  rw [bigSep_congr (s := Finset.univ) fun (c : Dev nD) _ => harr c]
  rw [bigSep_congr (s := Finset.univ) fun (c : Dev nD) _ => hsum c]
  rw [bigSep_sep', bigSep_sep', bigSep_sep', bigSep_sep', bigSep_sep', bigSep_sep', bigSep_sep']
  rw [hbar, around fun c k => dutyTok ER (dcell c 1 k) 0 0, around fun c k => dutyTok ER (dcell c 3 k) 0 0]
  exact congrArg (fun X => iprop(_ ∗ X)) (two_pairs _ _ _ _)

/-! ## The credits -/

/-- The amount that a sum of tallies over the steps owes at a semaphore. -/
theorem owed_at (t : Fin 31 → GSem nD τ sig) (n : ℕ) (g : GSem nD τ sig) :
    (order.map fun k => (tallyAt (t k) () n : CellTallies nD τ sig Unit)).sum g () = ∑ k, if g = t k then n else 0 := by
  have h (l : List (Fin 31)) : (l.map fun k => (tallyAt (t k) () n : CellTallies nD τ sig Unit)).sum g ()
      = (l.map fun k => if g = t k then n else 0).sum := by
    induction l with
    | nil => rfl
    | cons k l ih =>
      rw [List.map_cons, List.map_cons, List.sum_cons, List.sum_cons, ← ih]
      show (tallyAt (t k) () n : CellTallies nD τ sig Unit) g () + _ = _
      rw [tallyAt_apply]
      simp only [and_true]
  rw [h, ← order_toFinset, List.sum_toFinset _ order_nodup]

theorem barCell_inj {a b : Dev nD} (h : barCell a = barCell b) : a = b := barEmb.injective h
theorem dcell_inj {a b : Dev nD} {j j' : Fin 4} {k k' : Fin 31} (h : dcell a j k = dcell b j' k') : a = b ∧ j = j' ∧ k = k' := by
  have := scEmb.injective (a₁ := (a, j, k)) (a₂ := (b, j', k')) h
  simpa only [Prod.mk.injEq] using this

/-- The device whose step `k` reaches `c`, among all. -/
theorem one_back (c : Dev nD) (k : Fin 31) (n : ℕ) : (∑ d : Dev nD, if c = peer d k then n else 0) = n := by
  rw [Finset.sum_congr rfl fun d _ => if_congr (show c = peer d k ↔ d = back c k from
    ⟨fun h => by rw [h, back_peer], fun h => by rw [h, peer_back]⟩) rfl rfl]
  rw [Finset.sum_ite_eq', if_pos (Finset.mem_univ _)]

theorem dcell_ne_bar (a b : Dev nD) (j : Fin 4) (k : Fin 31) : dcell a j k ≠ barCell b := fun h => dma_ne_bar _ (congrArg Prod.snd h)

/-- What device `d` owes at the barrier of `c`. -/
theorem owes_bar (c d : Dev nD) : O₀ d (barCell c) () = ∑ k, if c = peer d k then 1 else 0 := by
  show oBar d order (barCell c) () + (oRs d order (barCell c) () + oAg d order (barCell c) ()) = _
  unfold oBar oRs oAg
  rw [owed_at, owed_at, owed_at]
  rw [Finset.sum_congr rfl fun k _ => if_neg (c := barCell c = dcell (peer d k) 1 k) fun h => dcell_ne_bar _ _ _ _ h.symm]
  rw [Finset.sum_congr rfl fun k _ => if_neg (c := barCell c = dcell (peer d k) 3 k) fun h => dcell_ne_bar _ _ _ _ h.symm]
  rw [Finset.sum_const_zero, Nat.add_zero, Nat.add_zero]
  exact Finset.sum_congr rfl fun k _ => if_congr ⟨barCell_inj, congrArg _⟩ rfl rfl

/-- What device `d` owes at what `c` waits for in the first round, and in the second. -/
theorem owes_rs (c d : Dev nD) (k : Fin 31) : O₀ d (dcell c 1 k) () = if c = peer d k then N else 0 := by
  show oBar d order (dcell c 1 k) () + (oRs d order (dcell c 1 k) () + oAg d order (dcell c 1 k) ()) = _
  unfold oBar oRs oAg
  rw [owed_at, owed_at, owed_at]
  rw [Finset.sum_congr rfl fun k' _ => if_neg (c := dcell c 1 k = barCell (peer d k')) fun h => dcell_ne_bar _ _ _ _ h]
  rw [Finset.sum_congr rfl fun k' _ => if_neg (c := dcell c 1 k = dcell (peer d k') 3 k') fun h => absurd (dcell_inj h).2.1 (by decide)]
  rw [Finset.sum_const_zero, Nat.add_zero, Nat.zero_add]
  rw [Finset.sum_eq_single k (fun k' _ hk => if_neg fun h => hk (dcell_inj h).2.2.symm) fun h => absurd (Finset.mem_univ _) h]
  exact if_congr ⟨fun h => (dcell_inj h).1, fun h => congrArg (fun c => dcell c 1 k) h⟩ rfl rfl
theorem owes_ag (c d : Dev nD) (k : Fin 31) : O₀ d (dcell c 3 k) () = if c = peer d k then N else 0 := by
  show oBar d order (dcell c 3 k) () + (oRs d order (dcell c 3 k) () + oAg d order (dcell c 3 k) ()) = _
  unfold oBar oRs oAg
  rw [owed_at, owed_at, owed_at]
  rw [Finset.sum_congr rfl fun k' _ => if_neg (c := dcell c 3 k = barCell (peer d k')) fun h => dcell_ne_bar _ _ _ _ h]
  rw [Finset.sum_congr rfl fun k' _ => if_neg (c := dcell c 3 k = dcell (peer d k') 1 k') fun h => absurd (dcell_inj h).2.1 (by decide)]
  rw [Finset.sum_const_zero, Nat.zero_add, Nat.zero_add]
  rw [Finset.sum_eq_single k (fun k' _ hk => if_neg fun h => hk (dcell_inj h).2.2.symm) fun h => absurd (Finset.mem_univ _) h]
  exact if_congr ⟨fun h => (dcell_inj h).1, fun h => congrArg (fun c => dcell c 3 k) h⟩ rfl rfl

/-- The credit at a semaphore at which all devices together owe `n`. -/
theorem credit_at (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem credit_bar (c : Dev nD) :
    tallyOn (barCell c) (launchCredit (Pipeline.owing O₀) 0 (barCell c)) = (tallyAt (barCell c) () 31 : CellTallies nD τ sig Unit) :=
  credit_at _ _ (by
    rw [Finset.sum_congr rfl fun d _ => owes_bar c d, Finset.sum_comm, Finset.sum_congr rfl fun k _ => one_back c k 1]
    rfl)
theorem credit_rs (c : Dev nD) (k : Fin 31) :
    tallyOn (dcell c 1 k) (launchCredit (Pipeline.owing O₀) 0 (dcell c 1 k)) = (tallyAt (dcell c 1 k) () N : CellTallies nD τ sig Unit) :=
  credit_at _ _ (by rw [Finset.sum_congr rfl fun d _ => owes_rs c d k, one_back])
theorem credit_ag (c : Dev nD) (k : Fin 31) :
    tallyOn (dcell c 3 k) (launchCredit (Pipeline.owing O₀) 0 (dcell c 3 k)) = (tallyAt (dcell c 3 k) () N : CellTallies nD τ sig Unit) :=
  credit_at _ _ (by rw [Finset.sum_congr rfl fun d _ => owes_ag c d k, one_back])

/-- The semaphores that others raise: the barrier, and two for each step. -/
def raised : Unit ⊕ (Fin 31 ⊕ Fin 31) ↪ SemLoc sig :=
  ⟨fun | .inl _ => .reg barSem | .inr (.inl k) => .dma (dsem 1 k) | .inr (.inr k) => .dma (dsem 3 k), by
    rintro (a | a | a) (b | b | b) h
    · rfl
    · exact absurd h.symm (dma_ne_bar _)
    · exact absurd h.symm (dma_ne_bar _)
    · exact absurd h (dma_ne_bar _)
    · rw [(dsem_inj h).2]
    · exact absurd (dsem_inj h).1 (by decide)
    · exact absurd h (dma_ne_bar _)
    · exact absurd (dsem_inj h).1 (by decide)
    · rw [(dsem_inj h).2]⟩

/-- A device's credits at the launch: 31 at its barrier, and a whole copy at each semaphore that receives one. -/
theorem creds (c : Dev nD) :
    (Pipeline.launchCred O₀ c : sProp 𝕄) ⊢ iprop(cred (tallyAt (barCell c) () 31) ∗ bigSep Finset.univ (stepCreds (F := F) c)) := by
  unfold Pipeline.launchCred
  refine (bigSep_subset (Finset.subset_univ (Finset.univ.map raised))).trans ?_
  rw [BI.bigSep_map, BI.bigSep_univ_sum, BI.bigSep_univ_sum]
  unfold stepCreds
  rw [zip2]
  have h0 : bigSep Finset.univ (fun a : Unit => cred (tallyOn (barCell c) (launchCredit (Pipeline.owing O₀) 0 (barCell c))))
      = (cred (tallyAt (barCell c) () 31) : sProp 𝕄) := by
    rw [show (Finset.univ : Finset Unit) = {()} from rfl, BI.bigSep_singleton, credit_bar]
  have h1 : bigSep Finset.univ (fun k : Fin 31 => cred (tallyOn (dcell c 1 k) (launchCredit (Pipeline.owing O₀) 0 (dcell c 1 k))))
      = (bigSep Finset.univ fun k : Fin 31 => cred (tallyAt (dcell c 1 k) () N) : sProp 𝕄) :=
    bigSep_congr fun k _ => by rw [credit_rs]
  have h3 : bigSep Finset.univ (fun k : Fin 31 => cred (tallyOn (dcell c 3 k) (launchCredit (Pipeline.owing O₀) 0 (dcell c 3 k))))
      = (bigSep Finset.univ fun k : Fin 31 => cred (tallyAt (dcell c 3 k) () N) : sProp 𝕄) :=
    bigSep_congr fun k _ => by rw [credit_ag]
  rw [← h0, ← h1, ← h3]
  exact BI.Entails.refl _

end Cert.KernelIdeal.Ring32

end
-- ==== Proof.KernelIdeal.Region.lean ====
/- The all-reduce as one region of the program: what it is entered with, what it leaves, and its one grid point. -/
module

public import proofs.«01_k».proof.Proof.KernelIdeal.Launch
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Value

@[expose] public section

noncomputable section

namespace Cert.KernelIdeal.Ring32

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The partial result each device brings to the all-reduce. -/
abbrev part (c : Dev nD) : Vec F S32x64x128 .f32 := V3 m c main_v46
/-- What the region leaves: the sum in its result, nothing else changed. -/
def outs : Outs (F := F) := fun _ r c => Function.update (V3 m c) (Proc.devRef .tc main_v47) (RS (part m)) (Proc.devRef .tc r)

theorem V4_out (c : Dev nD) : V4 m (outs m) c main_v47 = RS (part m) := by
  show Function.update (V3 m c) (Proc.devRef .tc main_v47) (outs m 4 main_v47 c) (Proc.devRef .tc main_v47) = _
  rw [Function.update_self]
  unfold outs
  rw [Function.update_self]

/-! ## What the region is entered with and leaves -/

/-- What a device keeps for the region from the launch on. -/
def Tk (c : Dev nD) : sProp 𝕄 :=
  iprop((∃ κ : GSem nD τ sig → ℕ, recs (part m) κ) ∗ bars ∗ atPos ER (barCell c) 0 ∅ 0
    ∗ (bigSep Finset.univ fun x : Fin 4 × Fin 31 => openTok ER (dcell c x.1 x.2))
    ∗ bigSep Finset.univ (stepToks c) ∗ cred (tallyAt (barCell c) () 31) ∗ bigSep Finset.univ (stepCreds c))
/-- The same once the device's semaphores are open. -/
def Xk (c : Dev nD) : sProp 𝕄 :=
  iprop((∃ κ : GSem nD τ sig → ℕ, ctx (part m) κ c) ∗ atPos ER (barCell c) 0 ∅ 0
    ∗ (bigSep Finset.univ fun x : Fin 4 × Fin 31 => atPos ER (dcell c x.1 x.2) 0 ∅ 0)
    ∗ bigSep Finset.univ (stepToks c) ∗ cred (tallyAt (barCell c) () 31) ∗ bigSep Finset.univ (stepCreds c))
/-- What remains of it: the barrier at zero. -/
def Yk (c : Dev nD) : sProp 𝕄 := semVal (barCell c) 0

/-- The two scratch buffers, at any contents. -/
def scratch (c : Dev nD) : sProp 𝕄 := iprop((∃ f, bAll c f) ∗ ∃ f, rAll c f)
/-- The device's semaphores of the four arrays, at zero. -/
def zeros (c : Dev nD) : sProp 𝕄 := bigSep Finset.univ fun x : Fin 4 × Fin 31 => semVal (dcell c x.1 x.2) 0

theorem open_all (κ : GSem nD τ sig → ℕ) (c : Dev nD) :
    iprop(recs (part m) κ ∗ (bigSep Finset.univ fun x : Fin 4 × Fin 31 => openTok ER (dcell c x.1 x.2)) ∗ zeros c)
      ⊢ (|={Set.univ}=> iprop((bigSep Finset.univ fun x : Fin 4 × Fin 31 => atPos ER (dcell c x.1 x.2) 0 ∅ 0) ∗ opens c) : sProp 𝕄) := by
  unfold zeros opens
  rw [← bigSep_sep', ← bigSep_sep']
  exact (each (recs (part m) κ) (fun x : Fin 4 × Fin 31 => iprop(openTok ER (dcell c x.1 x.2) ∗ semVal (dcell c x.1 x.2) 0))
    (fun x => iprop(|={Set.univ}=> (atPos ER (dcell c x.1 x.2) 0 ∅ 0 ∗ reached ER (dcell c x.1 x.2) 0))) (fun x => by
      iintro ⟨#Hrec, Ho, Hv⟩
      iapply (Rounds.cell_open ER (ringRd (part m)) (g := dcell c x.1 x.2) (Set.mem_univ (κ (dcell c x.1 x.2))))
      isplitr; · iapply (recs_dma (part m) κ c x.1 x.2); iexact Hrec
      isplitl [Ho] <;> iassumption) Finset.univ).trans (bigSep_fupd _ _)

theorem hopen (c : Dev nD) : iprop(Tk m c ∗ Pipeline.ownSems0 osem c ∗ levAts L lv) ⊢ (|={Set.univ}=> Xk m c : sProp 𝕄) := by
  unfold Tk Xk
  rw [show (Pipeline.ownSems0 osem c : sProp 𝕄) = zeros c from rfl]
  iintro ⟨⟨⟨%κ, #Hrec⟩, #Hbar, HaB, Ho, Ht, HcB, Hc⟩, Hz, #Hlev⟩
  imod (open_all m κ c) $$ [Ho Hz] with ⟨Ha, #Hop⟩
  · isplitr; · iexact Hrec
    isplitl [Ho] <;> iassumption
  imodintro
  isplitr
  · iexists κ
    unfold ctx
    isplitr; · iexact Hrec
    isplitr; · iexact Hbar
    isplitr; · iexact Hop
    iexact Hlev
  isplitl [HaB]; · iexact HaB
  isplitl [Ha]; · iexact Ha
  isplitl [Ht]; · iexact Ht
  isplitl [HcB]; · iexact HcB
  iexact Hc

/-! ## The data of the one grid point -/

/-- What the body holds beside the two blocks, and what the device owes, before the point and after it. -/
def held₀ (c : Dev nD) : ℕ → sProp 𝕄
  | 0 => iprop(Xk m c ∗ scratch c ∗ ∃ r, prngReg c r)
  | _ + 1 => iprop(Yk c ∗ zeros c ∗ scratch c ∗ ∃ r, prngReg c r)
def owed₀ (c : Dev nD) : ℕ → CellTallies nD τ sig Unit
  | 0 => O₀ c
  | _ + 1 => 0

/-- The operand and the result of the region; the operand as brought, the result the sum; what the body holds
    before and after; all that is owed is paid by the body. -/
def dat0 (c : Dev nD) : Pipeline.Dat τ (Elt F) Unit ℕ UU ℕ cfg0 c where
  A w := match w with
    | ⟨0, _⟩ => V3 m c main_v46
    | ⟨1, _⟩ => V3 m c main_v47
  after w _ := match w with
    | ⟨0, _⟩ => part m c
    | ⟨1, _⟩ => RS (part m)
  Φ t := held₀ m c t.val
  q _ := fullShare
  owed t := owed₀ c t.val

def pdats : (p : Fin 1) → (c : Dev nD) → Pipeline.Dat τ (Elt F) Unit ℕ UU ℕ (Pipeline.pin (pcfgs (F := F)) adm p) c
  | 0 => dat0 m

theorem owed_first (c : Dev nD) : (dat0 m c).owed t0_0.castSucc = O₀ c := rfl
theorem owed_next (c : Dev nD) : (dat0 m c).owed t0_0.succ = 0 := rfl
theorem owed_zero (c : Dev nD) : (pdats m 0 c).owed 0 = O₀ c := rfl
theorem owed_last (c : Dev nD) : (pdats m 0 c).owed (Fin.last _) = 0 := by
  show owed₀ c (Fin.last cfg0.N).val = 0
  rw [Fin.val_last, show cfg0.N = 1 from N_0]
  rfl

theorem Φ_first (c : Dev nD) : (pdats m 0 c).Φ 0 = iprop(Xk m c ∗ scratch c ∗ ∃ r, prngReg c r) := rfl
theorem Φ_last (c : Dev nD) : (pdats m 0 c).Φ (Fin.last _) = iprop(Yk c ∗ zeros c ∗ scratch c ∗ ∃ r, prngReg c r) := by
  show held₀ m c (Fin.last cfg0.N).val = _
  rw [Fin.val_last, show cfg0.N = 1 from N_0]
  rfl

/-- Each window's one block is its whole array: what is read of the block is the array. -/
theorem read_in (X : Vec F S32x64x128 .f32) : (win0_0.blk t0_0).view.read (Elt F) X = X :=
  Memref.read_access_unit_zero (Elt F) main_v46 (funext fun a => by fin_cases a <;> decide) (fun a => by fin_cases a <;> decide) X
theorem read_out (X : Vec F S32x64x128 .bf16) : (win0_1.blk t0_0).view.read (Elt F) X = X :=
  Memref.read_access_unit_zero (Elt F) main_v47 (funext fun a => by fin_cases a <;> decide) (fun a => by fin_cases a <;> decide) X

theorem before_in (c : Dev nD) (d : (cfg0.win 0).block.Idx → Elt F (cfg0.win 0).elt) : (dat0 m c).before 0 t0_0 d = part m c := by
  unfold Pipeline.Dat.before
  rw [if_pos (fetch0_0 t0_0)]
  exact read_in (V3 m c main_v46)

/-- A whole buffer held through its memref is the buffer held. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

theorem owes_out (c : Dev nD) (t : Fin (cfg0.N + 1)) (O : CellTallies nD τ sig Unit) (h : (dat0 m c).owed t = O) :
    ((dat0 m c).owesAt () t : sProp 𝕄) ⊢ owing c O := by
  unfold Pipeline.Dat.owesAt Pipeline.owesWithin
  rw [h]
  iintro ⟨%W, -, HO⟩
  iexists W; iexact HO
theorem owes_in (c : Dev nD) (t : Fin (cfg0.N + 1)) (O : CellTallies nD τ sig Unit) (h : (dat0 m c).owed t = O) :
    owing c O ⊢ ((dat0 m c).owesAt () t : sProp 𝕄) := by
  unfold Pipeline.Dat.owesAt Pipeline.owesWithin
  rw [h]
  iintro ⟨%W, HO⟩
  iexists W
  isplitr; · ipureintro; exact fun _ _ => Or.inl trivial
  iexact HO

/-- The body at the one grid point takes what it is given to what it leaves. -/
theorem body_obligation (c : Dev nD) : Pipeline.BodyObligation (dat0 m c) (defs₀ (F := F)) 𝒱₀ () Set.univ := fun t => by
  obtain rfl := fin_N0 t
  rw [bigSep_W0, bigSep_W0]
  simp only [owns_whole]
  rw [show (dat0 m c).Φ t0_0.castSucc = iprop(Xk m c ∗ scratch c ∗ ∃ r, prngReg c r) from rfl,
    show (dat0 m c).Φ t0_0.succ = iprop(Yk c ∗ zeros c ∗ scratch c ∗ ∃ r, prngReg c r) from rfl]
  unfold Xk Yk scratch zeros
  iintro ⟨⟨⟨⟨%κ, #Hctx⟩, HaB, Ha, Ht, HcB, Hc⟩, ⟨Hb, Hr⟩, Hreg⟩, HO, ⟨%d0, %f0, %hf0, H0⟩, ⟨%d1, %f1, %hf1, H1⟩⟩
  rw [before_in] at hf0
  subst hf0
  ihave HO' := (owes_out m c _ (O₀ c) (owed_first m c)) $$ HO
  iapply (show iprop(bodyPre (part m) κ c ∗ (bodyPost (part m) c -∗ _)) ⊢ _ from
    bodyRun (part m) κ c (Memref.isWhole_whole _) (Memref.isWhole_whole _) _)
  isplitl [HaB Ha Ht HcB Hc Hb Hr H0 H1 HO']
  · unfold bodyPre
    isplitr; · iexact Hctx
    isplitl [HaB]; · iexact HaB
    isplitl [Ha]; · iexact Ha
    isplitl [Ht]; · iexact Ht
    isplitl [HcB]; · iexact HcB
    isplitl [Hc]; · iexact Hc
    isplitl [H0]; · iexact H0
    isplitl [Hb]; · iexact Hb
    isplitl [Hr]; · iexact Hr
    isplitl [H1]; · iexists f1; iexact H1
    iexact HO'
  unfold bodyPost
  iintro ⟨HvB, Hv, Hp, Hb, Hr, Ho, HO⟩
  isplitr [HO Hp Ho]
  · isplitl [HvB]; · iexact HvB
    isplitl [Hv]; · iexact Hv
    isplitl [Hb Hr]
    · isplitl [Hb] <;> iassumption
    iexact Hreg
  isplitl [HO]; · iapply (owes_in m c t0_0.succ 0 (owed_next m c)); iexact HO
  isplitl [Hp]
  · iexists _; isplitr; swap; (· iexact Hp); ipureintro; rfl
  iexists _; isplitr; swap; (· iexact Ho); ipureintro; rfl

/-! ## The region -/

theorem arr_in (c : Dev nD) (n : ℕ) : (dat0 m c).arrAt 0 n = V3 m c main_v46 := (dat0 m c).arrAt_in 0 rfl n
/-- After the point the result's array holds the sum. -/
theorem arr_out (c : Dev nD) : (dat0 m c).arrAt 1 cfg0.N = RS (part m) := by
  rw [show cfg0.N = t0_0.val + 1 from N_0, (dat0 m c).arrAt_succ 1 t0_0, if_pos (flush0_1 t0_0)]
  refine (read_out (F := F) _).symm.trans ?_
  exact View.read_write_univ _ _

theorem osem_facts : Pipeline.OwnSemFacts spec0 osem where
  isScoped := by decide
  inj a b h := Prod.ext (dsem_inj h).1 (dsem_inj h).2
  disj := by decide

/-- The unscoped buffers that are not the region's two arrays. -/
def others0 : Finset (DevRef τ sig) := Pipeline.ucRefs τ sig \ Pipeline.arrRefs (τ := τ) (pcfgs (F := F) 0).spec

/-- The semaphores of the staging copies are at the bottom. -/
theorem staging_low : ∀ (w : Fin 2) (s : Fin (spec0 w).nbuf), lv (((0 : Dev nD) : Thread nD τ), .dma ((spec0 w).sem s)) () ≤ 0 := by decide

theorem out_mem : (Proc.devRef .tc main_v47 : DevRef τ sig) ∈ Pipeline.arrRefs (τ := τ) spec0 := by decide

theorem levels : Pipeline.LevelCutOwed (pcfgs (F := F)) adm (pdats m) () L lv 0 fun _ => 0 where
  hι c w s := by rw [L_tc]; exact Finset.mem_singleton_self _
  hιb c w s := staging_low w s
  hD c t g i h := by
    have e : (pdats m 0 c).owed t = owed₀ c t.val := rfl
    rw [e] at h
    obtain ⟨n, hn⟩ := t
    cases n with
    | zero => exact owed_all c g i h
    | succ n => exact absurd h (Nat.lt_irrefl 0)

set_option backward.isDefEq.respectTransparency.types false in
/-- The region: entered with its operand and what the device keeps for it, left with the sum in its result. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ (others0 (F := F)) (Finset.empty_subset _) launch0.toP rfl (fun c => (body_obligation m c).loose)
    (fun _ => 0) O₀ (fun c => (owed_zero m c).trans (zero_add _).symm) (owed_last m) (fun _ => rfl)
    (fun c w => (pdats m 0 c).share_full (fun _ => rfl) w)
    (fun c => V3 m c) (fun c => V4 m (outs m) c)
    (fun c b hb => by
      rw [Finset.sdiff_empty] at hb
      refine Function.update_of_ne (fun e => (Finset.mem_sdiff.mp hb).2 ?_) _ _
      rw [e]
      exact out_mem)
    (Tk m) Yk (Xk m) Yk (hopen m)
    (fun c => by
      rw [Φ_first, show (Pipeline.pin (pcfgs (F := F)) adm 0).spec = spec0 from rfl, scopedRest0_eq]
      unfold scratch
      iintro ⟨Hs, Hp, -, HX⟩
      isplitl [HX]; · iexact HX
      isplitl [Hs]; · iexact Hs
      iexact Hp)
    (fun c => by
      rw [Φ_last, show (Pipeline.pin (pcfgs (F := F)) adm 0).spec = spec0 from rfl, scopedRest0_eq,
        show (Pipeline.ownSems0 osem c : sProp 𝕄) = zeros c from rfl]
      unfold scratch StableHlo.held
      rw [BI.bigSep_empty]
      iintro ⟨HY, Hz, Hs, Hp⟩
      isplitl [Hs]; · iexact Hs
      isplitl [Hp]; · iexact Hp
      isplitr; · iempintro
      isplitl [Hz] <;> iassumption)
    (fun c => by iintro H; imodintro; iexact H)
    (fun _ => 0) (levels m) (fun _ => iprop(emp))
    (fun c w => by
      fin_cases w
      · exact arr_in m c 0
      · rfl)
    (fun c w => by
      fin_cases w
      · exact (arr_in m c _).trans (V4_of m (outs m) c main_v46 (by decide)).symm
      · exact (arr_out m c).trans (V4_out m c).symm)

end Cert.KernelIdeal.Ring32

end
-- ==== Proof.KernelIdeal.Run.lean ====
/- The run of the whole program: what every device's result holds at the end, the arguments as they were, every
   semaphore at zero. -/
module

public import proofs.«01_k».proof.Proof.KernelIdeal.Region
public import Idealize.ShloMosaic.Lib.Quiescent

@[expose] public section

noncomputable section

namespace Cert.KernelIdeal.Ring32

open Idealize.ShloMosaic Idealize.ShloMosaic.TcCoe Idealize.SL Idealize.SL.RA Idealize.SL.BI Cert.KernelIdeal.Gen
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep' _ Φ Ψ)
theorem together {Φ Ψ : Dev nD → sProp 𝕄} : iprop(bigSep Finset.univ Φ ∗ bigSep Finset.univ Ψ) ⊢ bigSep Finset.univ fun c => iprop(Φ c ∗ Ψ c) :=
  Entails.of_eq (bigSep_sep' _ Φ Ψ).symm

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barSem} from by decide, BI.bigSep_singleton]

/-- The launch's element: the staging copies' own, and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's part, at device 0 until it is dealt out. -/
def atFirst (c : Dev nD) : sProp 𝕄 := if c = 0 then BI.own (ER (launchOf barCells scCells toks)) else iprop(emp)
theorem atFirst_all : bigSep Finset.univ (atFirst (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst
  rw [if_pos rfl]
  exact BI.equiv_iff.mp sep_emp

/-- What rides along before the region, and after it. -/
def ride : Fin 2 → Dev nD → sProp 𝕄
  | 0 => fun c => iprop(Tk m c ∗ (∃ r, prngReg c r) ∗ owing c (O₀ c))
  | 1 => fun c => iprop(semVal (barCell c) 0 ∗ owing c 0)

/-- What each device is dealt of the protocol's state. -/
def dealt (c : Dev nD) : sProp 𝕄 :=
  iprop(atPos ER (barCell c) 0 ∅ 0 ∗ (bigSep Finset.univ fun x : Fin 4 × Fin 31 => openTok ER (dcell c x.1 x.2))
    ∗ bigSep Finset.univ (stepToks c))
/-- What each device holds besides. -/
def own₀ (c : Dev nD) : sProp 𝕄 :=
  iprop(cred (tallyAt (barCell c) () 31) ∗ bigSep Finset.univ (stepCreds c) ∗ (∃ r, prngReg c r) ∗ owing c (O₀ c))

/-- The records every device may consult. -/
def records (κ : GSem nD τ sig → ℕ) : sProp 𝕄 := iprop(recs (part m) κ ∗ bars)
instance records_persistent (κ : GSem nD τ sig → ℕ) : BI.Persistent (records m κ) := by unfold records; infer_instance

theorem ride_intro (κ : GSem nD τ sig → ℕ) (c : Dev nD) : iprop(records m κ ∗ (dealt c ∗ own₀ c)) ⊢ ride m 0 c := by
  unfold records dealt own₀
  show _ ⊢ iprop(Tk m c ∗ (∃ r, prngReg c r) ∗ owing c (O₀ c))
  unfold Tk
  iintro ⟨⟨#Hrec, #Hbar⟩, ⟨Ha, Ho, Ht⟩, HcB, Hc, Hp, HO⟩
  isplitr [Hp HO]
  · isplitr; · iexists κ; iexact Hrec
    isplitr; · iexact Hbar
    isplitl [Ha]; · iexact Ha
    isplitl [Ho]; · iexact Ho
    isplitl [Ht]; · iexact Ht
    isplitl [HcB] <;> iassumption
  isplitl [Hp] <;> iassumption

theorem own_intro (c : Dev nD) :
    iprop(unscopedSems0 c ∗ owes (c : Thread nD τ) (O₀ c) ∅ ∗ Pipeline.launchCred O₀ c ∗ prngReg c (ρ c) ∗ atFirst c)
      ⊢ (iprop(own₀ c ∗ (semVal (barCell c) 0 ∗ atFirst c)) : sProp 𝕄) := by
  rw [unscopedSems_eq]
  unfold own₀
  iintro ⟨Hv, HO, Hcr, Hp, HG⟩
  ihave Hc := (creds (F := F) c) $$ Hcr
  icases Hc with ⟨HcB, Hc⟩
  isplitr [Hv HG]
  · isplitl [HcB]; · iexact HcB
    isplitl [Hc]; · iexact Hc
    isplitl [Hp]; · iexists (ρ c); iexact Hp
    iexists ∅; iexact HO
  isplitl [Hv] <;> iassumption

theorem over_bars (Φ : GSem nD τ sig → sProp 𝕄) : bigSep barCells Φ = bigSep Finset.univ fun c : Dev nD => Φ (barCell c) := by
  unfold barCells
  rw [BI.bigSep_map]
  exact bigSep_congr fun c _ => rfl

theorem over_scratch (Φ : GSem nD τ sig → sProp 𝕄) :
    bigSep scCells Φ = bigSep Finset.univ fun x : Dev nD × (Fin 4 × Fin 31) => Φ (dcell x.1 x.2.1 x.2.2) := by
  unfold scCells
  rw [BI.bigSep_map]
  exact bigSep_congr fun c _ => rfl

theorem over_both (κ : GSem nD τ sig → ℕ) :
    bigSep (barCells ∪ scCells) (fun g => (cellInv ER (ringRd (part m)) (κ g) g : sProp 𝕄)) ⊢ recs (part m) κ := by
  rw [BI.bigSep_union cells_disjoint, over_bars, over_scratch]
  unfold recs
  exact BI.Entails.refl _

theorem bars_all : bigSep barCells (fun g => (reached ER g 0 : sProp 𝕄)) ⊢ bars (F := F) := by
  rw [over_bars]
  unfold bars
  exact BI.Entails.refl _

theorem opens_all : bigSep scCells (fun g => (openTok ER g : sProp 𝕄))
    ⊢ bigSep Finset.univ (fun c : Dev nD => bigSep Finset.univ fun x : Fin 4 × Fin 31 => openTok ER (dcell c x.1 x.2)) := by
  rw [over_scratch, BI.bigSep_univ_prod]

/-- Opening any cells for the protocol: what each part of the state becomes is given by the last five arguments. -/
theorem open_cells {S Sd : Finset (GSem nD τ sig)} (hSd : Disjoint S Sd) (hu : ∀ g ∈ Sd, ¬ (ringRd (part m)).unitless g)
    (T : Finset (GSem nD τ sig × ℕ × Fin 31)) {A : (GSem nD τ sig → ℕ) → sProp 𝕄} {B C D E : sProp 𝕄}
    (hA : ∀ κ, bigSep (S ∪ Sd) (fun g => (cellInv ER (ringRd (part m)) (κ g) g : sProp 𝕄)) ⊢ A κ)
    (hB : bigSep S (fun g => (reached ER g 0 : sProp 𝕄)) ⊢ B) (hC : bigSep S (fun g => (atPos ER g 0 ∅ 0 : sProp 𝕄)) ⊢ C)
    (hD : bigSep Sd (fun g => (openTok ER g : sProp 𝕄)) ⊢ D) (hE : bigSep T (fun t => (dutyTok ER t.1 t.2.1 t.2.2 : sProp 𝕄)) ⊢ E) :
    iprop(bigSep S (fun g => (semVal g 0 : sProp 𝕄)) ∗ BI.own (ER (launchOf S Sd T)))
      ⊢ (|={Set.univ}=> iprop(∃ κ, (A κ ∗ B) ∗ C ∗ D ∗ E) : sProp 𝕄) := by
  iintro H
  imod (Rounds.fund_launch ER (ringRd (part m)) hSd hu T) $$ H with ⟨%κ, -, Hinv, Hr, Hat, Hopen, Htok⟩
  imodintro
  iexists κ
  isplitl [Hinv Hr]
  · isplitl [Hinv]; · iapply hA κ $$ Hinv
    iapply hB $$ Hr
  isplitl [Hat]; · iapply hC $$ Hat
  isplitl [Hopen]; · iapply hD $$ Hopen
  iapply hE $$ Htok

theorem not_unitless : ∀ g ∈ (scCells : Finset (GSem nD τ sig)), ¬ (ringRd (part m)).unitless g := fun _ _ h => h

theorem deal {A B C : Dev nD → sProp 𝕄} : iprop(bigSep Finset.univ A ∗ bigSep Finset.univ B ∗ bigSep Finset.univ C)
    ⊢ bigSep Finset.univ fun c => iprop(A c ∗ B c ∗ C c) := by
  rw [bigSep_sep', bigSep_sep']

/-- The protocol's cells are opened and its state is dealt out. -/
theorem funded :
    iprop((bigSep Finset.univ fun c : Dev nD => semVal (barCell c) 0) ∗ bigSep Finset.univ (atFirst (F := F)))
      ⊢ (|={Set.univ}=> iprop(∃ κ, records m κ ∗ (bigSep Finset.univ fun c : Dev nD => (atPos ER (barCell c) 0 ∅ 0 : sProp 𝕄))
        ∗ (bigSep Finset.univ fun c : Dev nD => bigSep Finset.univ fun x : Fin 4 × Fin 31 => openTok ER (dcell c x.1 x.2))
        ∗ bigSep Finset.univ fun c : Dev nD => bigSep Finset.univ (stepToks (F := F) c)) : sProp 𝕄) := by
  rw [atFirst_all, ← over_bars fun g => semVal g 0]
  exact open_cells m cells_disjoint (not_unitless m) toks (over_both m) bars_all
    (Entails.of_eq (over_bars (F := F) fun g => atPos ER g 0 ∅ 0)) opens_all (Entails.of_eq (toks_dealt (F := F)))

theorem regroup :
    (bigSep Finset.univ fun c : Dev nD => iprop(unscopedSems0 c ∗ owes (c : Thread nD τ) (O₀ c) ∅ ∗ Pipeline.launchCred O₀ c
        ∗ prngReg c (ρ c) ∗ atFirst c))
      ⊢ (iprop(bigSep Finset.univ own₀ ∗ ((bigSep Finset.univ fun c : Dev nD => semVal (barCell c) 0) ∗ bigSep Finset.univ (atFirst (F := F)))) : sProp 𝕄) := by
  rw [← bigSep_sep', ← bigSep_sep']
  exact bigSep_mono fun c _ => own_intro ρ c

/-- Everything is dealt out, on all devices at once. -/
theorem init :
    iprop((bigSep Finset.univ fun c : Dev nD => iprop(unscopedSems0 c ∗ owes (c : Thread nD τ) (O₀ c) ∅ ∗ Pipeline.launchCred O₀ c
        ∗ prngReg c (ρ c) ∗ atFirst c)) ∗ levAts L lv)
      ⊢ (|={Set.univ}=> bigSep Finset.univ (ride m 0) : sProp 𝕄) := by
  iintro ⟨H, -⟩
  ihave H := (regroup ρ) $$ H
  icases H with ⟨HB, H⟩
  imod (funded m) $$ H with ⟨%κ, #Hrec, HD⟩
  ihave HD := (show _ ⊢ bigSep Finset.univ (dealt (F := F)) from deal) $$ HD
  imodintro
  iapply (bigSep_with_persistent (R := records m κ) (Φ := fun c => iprop(dealt c ∗ own₀ c)) fun c _ => ride_intro m κ c)
  isplitr; · iexact Hrec
  iapply together
  isplitl [HD] <;> iassumption

/-! ## Into the region and out of it -/

theorem all_refs : Pipeline.ucRefs τ sig = Pipeline.arrRefs (τ := τ) (pcfgs (F := F) 0).spec ∪ others0 (F := F) :=
  (Finset.union_sdiff_of_subset (by decide : Pipeline.arrRefs (τ := τ) spec0 ⊆ Pipeline.ucRefs τ sig)).symm

theorem held_all (c : Dev nD) (V : Valuation τ sig (Elt F)) :
    (StableHlo.held (c : Thread nD τ) (Pipeline.ucRefs τ sig) V : sProp 𝕄)
      = iprop(StableHlo.held (c : Thread nD τ) (Pipeline.arrRefs (τ := τ) (pcfgs (F := F) 0).spec) V ∗ StableHlo.held (c : Thread nD τ) (others0 (F := F)) V) := by
  conv_lhs => rw [all_refs (F := F)]
  unfold StableHlo.held
  exact BI.bigSep_union Finset.disjoint_sdiff

theorem enter (c : Dev nD) : iprop(StableHlo.held (c : Thread nD τ) (Pipeline.ucRefs τ sig) (V3 m c) ∗ ride m 0 c) ⊢ (reg0 m).pre c := by
  show _ ⊢ iprop(StableHlo.held (c.tc : Thread nD τ) (Pipeline.arrRefs (τ := τ) (pcfgs (F := F) 0).spec) (V3 m c) ∗ (∃ r, prngReg c r)
    ∗ (StableHlo.held (c.tc : Thread nD τ) (others0 (F := F)) (V3 m c) ∗ emp) ∗ Tk m c ∗ ∃ Wd, owes (c : Thread nD τ) (0 + O₀ c) Wd)
  rw [held_all, zero_add, show ride m 0 c = iprop(Tk m c ∗ (∃ r, prngReg c r) ∗ owing c (O₀ c)) from rfl]
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem leave (c : Dev nD) : (reg0 m).post c ⊢ iprop(StableHlo.held (c : Thread nD τ) (Pipeline.ucRefs τ sig) (V4 m (outs m) c) ∗ ride m 1 c) := by
  show iprop(StableHlo.held (c.tc : Thread nD τ) (Pipeline.arrRefs (τ := τ) (pcfgs (F := F) 0).spec) (V4 m (outs m) c) ∗ (∃ r, prngReg c r)
    ∗ (StableHlo.held (c.tc : Thread nD τ) (others0 (F := F)) (V4 m (outs m) c) ∗ emp) ∗ Yk c ∗ ∃ Wd, owes (c : Thread nD τ) (0 : CellTallies nD τ sig Unit) Wd) ⊢ _
  rw [held_all, show ride m 1 c = iprop(semVal (barCell c) 0 ∗ owing c 0) from rfl]
  unfold Yk
  iintro ⟨Ha, -, ⟨Ho, -⟩, Hv, HO⟩
  isplitl [Ha Ho]
  · isplitl [Ha] <;> iassumption
  isplitl [Hv] <;> iassumption

/-! ## The run -/

theorem unscoped_eq : ∀ sm : SemLoc sig, sm.isScoped .tc = false → sm = .reg barSem := by decide

/-- What is read off a device at the end. -/
def final (c : Dev nD) (s : MemSt nD τ sig (Elt F)) : Prop :=
  (s.mem ((c : Thread nD τ).loc main_v49) = V5 m (outs m) c main_v49
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.sem (barCell c) = 0

theorem read_final (c : Dev nD) (s' : Phys nD τ sig (Elt F)) :
    iprop((StableHlo.held (c : Thread nD τ) (Pipeline.ucRefs τ sig) (V5 m (outs m) c) ∗ semVal (barCell c) 0) ∗ SI s')
      ⊢ (|={Set.univ}=> iprop(⌜final m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  have hr (r : Ref sig .tc) (hu : ¬ (Proc.devRef (τ := τ) .tc r).isScoped) : s'.mem.mem ((c : Thread nD τ).loc r) = V5 m (outs m) c r :=
    h (Proc.devRef .tc r) (Finset.mem_filter.mpr ⟨StableHlo.devRef_mem_tcRefs r, hu⟩)
  imodintro
  isplitr
  · ipureintro
    exact ⟨⟨hr main_v49 (by decide), (hr main_arg0 (by decide)).trans (V5_main_arg0 m _ c), (hr main_arg1 (by decide)).trans (V5_main_arg1 m _ c),
      (hr main_arg2 (by decide)).trans (V5_main_arg2 m _ c), (hr main_arg3 (by decide)).trans (V5_main_arg3 m _ c),
      (hr main_arg4 (by decide)).trans (V5_main_arg4 m _ c)⟩, by simpa using hb⟩
  iexact HSI

set_option backward.isDefEq.respectTransparency.types false in
/-- Every run of the program ends; each device's result then holds what the last host operation makes of the
    all-reduced sum, its arguments what they held, and every semaphore is at zero. -/
theorem run_main : θ_run defs (onTc (τ := τ) (main (F := F))) ⟨m, fun _ => 0, ρ⟩ (fun r =>
    (∀ c : Dev nD, r.2.mem ((c : Thread nD τ).loc main_v49) = V5 m (outs m) c main_v49
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine Pipeline.θ_run_regions_kit_dev_sems (pcfgs (F := F)) adm (pdats m) () cellOf_inj EP defs₀ 𝒱₀ L lv m ρ main
    (segs m (outs m) 𝒱₀ L lv (ride m) () (pdats m) (reg0 m))
    (fun c Q => by
      rewrite [main_chain c, Pipeline.Seg.run_eq_chain,
        show (segs m (outs m) 𝒱₀ L lv (ride m) () (pdats m) (reg0 m) c).map Pipeline.Seg.prog = [
          StableHlo.seq (hostOps0 c), StableHlo.seq hostOps0_1, StableHlo.seq hostOps0_2,
          Prog.lift (.customCall (Pipeline.entry 0) ()), StableHlo.seq hostOps1] from rfl]
      dsimp (config := { failIfUnchanged := false }) only
      exact .rfl)
    (fun c => by simp only [segs, Pipeline.Seg.pipes_host, Pipeline.Seg.pipes_region, Pipeline.Seg.pipes_nil]; decide)
    O₀ L_of_ne atFirst (u₀ (F := F))
    (by
      unfold u₀
      iintro Hu
      ihave H := (ownU_pair _ _) $$ Hu
      icases H with ⟨HP, HX⟩
      imodintro
      isplitl [HP]; · iexact HP
      rw [atFirst_all]; iexact HX)
    (T₀ := fun c => iprop(StableHlo.held (c : Thread nD τ) (Pipeline.ucRefs τ sig) (V0 m c) ∗ ride m 0 c))
    (Tₙ := fun c => iprop(StableHlo.held (c : Thread nD τ) (Pipeline.ucRefs τ sig) (V5 m (outs m) c) ∗ semVal (barCell c) 0))
    (hch := fun c => ⟨.rfl, .rfl, .rfl, enter m c, leave m c, ?_⟩)
    (hinit := ?_) (QY := final m) (hfin := read_final m)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V5 m (outs m) c) ∗ (semVal (barCell c) 0 ∗ owing c 0)) ⊢ _
    iintro ⟨Hh, Hv, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ atFirst c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ atFirst c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr] <;> iassumption
    imodintro
    rw [bigSep_sep']
    isplitl [Hh] <;> iassumption

end Cert.KernelIdeal.Ring32

end
-- ==== Proof.Frames.lean ====
/- The frames: each program ends, its arguments as they were, every semaphore at zero. -/
module

public import proofs.«01_k».proof.Defs
public import proofs.«01_k».proof.Proof.Kernel.Run
public import proofs.«01_k».proof.Proof.KernelIdeal.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.SL.Sem

/-- The kernel's run, with what the result holds left out. -/
theorem frame_kernel : Cert.quiescent_Kernel := fun m ρ _ =>
  θ_run_mono (Cert.Kernel.Ring32.run_main (F := Bits) m ρ) fun _ h => ⟨fun c => (h.1 c).2, h.2⟩

/-- The same at the ideal instance. -/
theorem frame_kernelIdeal : Cert.quiescent_KernelIdeal := fun m ρ _ =>
  θ_run_mono (Cert.KernelIdeal.Ring32.run_main (F := Ideal) m ρ) fun _ h => ⟨fun c => (h.1 c).2, h.2⟩

/-- The reference's run, with what the result holds left out; it has no semaphores. -/
theorem frame_referenceIdeal : Cert.quiescent_ReferenceIdeal := fun m ρ _ =>
  θ_run_mono (Cert.ReferenceIdeal.Value.run (F := Ideal) m ρ) fun r h =>
    ⟨fun c => (h c).2, Idealize.ShloMosaic.sem_eq_zero_of_no_sems (by decide) r.2⟩

end Cert.Proof

end
-- ==== Proof.Attention.lean ====
/- Attention of one query row, over the extended reals: the mathematics both programs compute. -/
module

public import Idealize.ShloMosaic.Lib.Pointwise
public import Idealize.ShloMosaic.Lib.Claim

@[expose] public section

noncomputable section

namespace Cert.Attention

open Idealize.ShloMosaic

/-- The least score: minus infinity. -/
def least : EReal := Ideal.ofBits .f32 0xFF800000#32

/-- The bit that says query `i` may attend to key `j`: they are at most 128 places apart. -/
def near (i j : Fin 256) : BitVec 1 :=
  IntOp.cmpi .sle (IntOp.absi (IntOp.subi (BitVec.ofNat 32 i.1) (BitVec.ofNat 32 j.1))) 128#32

/-- The score of key `j` for query `i`: their product over eight, or minus a thousand million where they are far apart. -/
def score (q : Fin 64 → EReal) (k : Fin 256 → Fin 64 → EReal) (i j : Fin 256) : EReal :=
  Scalar.select (near i j) ((∑ d, q d * k j d) * Ideal.ofBits .f32 0x3E000000#32) (Ideal.ofBits .f32 0xCE6E6B28#32)

/-- The largest of a row of scores. -/
def top (s : Fin 256 → EReal) : EReal := Finset.fold max least s Finset.univ

/-- The exponential of a score less the largest. -/
def exps (s : Fin 256 → EReal) (j : Fin 256) : EReal := Ideal.exp (s j - top s)

/-- A value's share of the sum of a row. -/
def share (p : Fin 256 → EReal) (j : Fin 256) : EReal := Ideal.div (p j) (∑ x, p x)

/-- One row of one head: the values `v`, mixed by the softmax of query `i`'s scores. -/
def head (q k v : Fin 256 → Fin 64 → EReal) (i : Fin 256) (d : Fin 64) : EReal :=
  ∑ j, v j d * share (exps (score (q i) k i)) j

/-- The largest of a row is not raised by the least score. -/
theorem max_top (s : Fin 256 → EReal) : max least (top s) = top s :=
  max_eq_right (Finset.le_fold_max _ |>.2 (.inl le_rfl))

/-- Every query may attend to some key: itself. -/
theorem near_self (i : Fin 256) : near i i = 1#1 := by
  unfold near
  revert i
  decide

end Cert.Attention

end
-- ==== Proof.KernelIdeal.Stages.lean ====
/- A device's partial product as a chain of named stages, and each stage read at an index. -/
module

public import proofs.«01_k».proof.Proof.Gen.KernelIdeal.Regions
public import Idealize.ShloMosaic.Lib.StableHlo.RunRead
public import Idealize.ShloMosaic.Lib.Claim
public import Idealize.ShloMosaic.Lib.Pointwise
public import Idealize.ShloMosaic.Lib.DynamicIndex
public import proofs.«01_k».proof.Proof.Attention

@[expose] public section

noncomputable section

namespace Cert.KernelIdeal.Attn

open Cert.KernelIdeal Cert.KernelIdeal.Gen Idealize.ShloMosaic Idealize.ShloMosaic.TcCoe

/-! ## The stages -/

section
variable {F : FTy → Type} [FloatOps F]

/-- The device's index, as the program computes it. -/
def index (c : Dev nD) : Vec F S_ .i32 :=
  id (Host.remui (Host.divui (constantI S_ 32 (Dev.word c)) (constantI S_ 32 1#32)) (constantI S_ 32 32#32))
/-- Where the device's block of 256 starts. -/
def start (c : Dev nD) : Vec F S_ .i32 :=
  select (cmpi .slt (muli (index (F := F) c) (constantI S_ 32 256#32)) (constantI S_ 32 0#32))
    (addi (muli (index (F := F) c) (constantI S_ 32 256#32)) (constantI S_ 32 8192#32)) (muli (index (F := F) c) (constantI S_ 32 256#32))
/-- The device's columns of `Wq`. -/
def columns (c : Dev nD) (wq : Vec F S512x8192 .bf16) : Vec F S512x256 .bf16 :=
  Host.dynamicSlice S512x256 wq (fun k => ((![constantI S_ 32 0#32, start (F := F) c] : Fin 2 → Vec F S_ .i32) k (Shape.Idx.first h_S_)).toInt) sliceFits_S512x8192_S512x256
/-- The device's rows of `Wo`. -/
def rows (c : Dev nD) (wo : Vec F S8192x512 .bf16) : Vec F S256x512 .bf16 :=
  Host.dynamicSlice S256x512 wo (fun k => ((![start (F := F) c, constantI S_ 32 0#32] : Fin 2 → Vec F S_ .i32) k (Shape.Idx.first h_S_)).toInt) sliceFits_S8192x512_S256x512
/-- Which keys a query attends to: those at most 128 places away. -/
def near : Vec F S256x256 .i1 :=
  cmpi .sle (absi (subi (iotaInDim S256x256 32 0) (iotaInDim S256x256 32 1))) (broadcastInDim S256x256 ![] bcast_S_S256x256 (constantI S_ 32 128#32))
/-- The queries of the device's heads. -/
def queries (x : Vec F S2x256x512 .bf16) (wq : Vec F S512x256 .bf16) : Vec F S2x256x4x64 .bf16 :=
  truncf .bf16 (shapeCast _ (Host.dotGeneral dot_S2x256x512_S512x256_S2x256x256_2_0_01_1_n_n none x wq : Vec F S2x256x256 .f32) shapeCasts_S2x256x256_S2x256x4x64) bitsLt_bf16_f32
/-- The scaled scores, the far ones overwritten. -/
def scores (q k : Vec F S2x256x4x64 .bf16) : Vec F S2x4x256x256 .f32 :=
  select (broadcastInDim S2x4x256x256 ![0, 1, 2, 3] bcast_S1x1x256x256_S2x4x256x256_0_1_2_3
      (broadcastInDim S1x1x256x256 ![2, 3] bcast_S256x256_S1x1x256x256_2_3 (near (F := F))))
    (mulf (Host.dotGeneral dot_S2x256x4x64_S2x256x4x64_S2x4x256x256_3_3_1_1_02_02 none q k)
      (broadcastInDim S2x4x256x256 ![] bcast_S_S2x4x256x256 (constant S_ .f32 0x3E000000#32)))
    (broadcastInDim S2x4x256x256 ![] bcast_S_S2x4x256x256 (id (constant S_ .f32 0xCE6E6B28#32)))
/-- The exponentials of the scores less their row's largest. -/
def exps (s : Vec F S2x4x256x256 .f32) : Vec F S2x4x256x256 .f32 :=
  Host.exp (subf s (broadcastInDim S2x4x256x256 ![0, 1, 2, 3] bcast_S2x4x256x1_S2x4x256x256_0_1_2_3
    (broadcastInDim S2x4x256x1 ![0, 1, 2] bcast_S2x4x256_S2x4x256x1_0_1_2
      (maximumf (broadcastInDim S2x4x256 ![] bcast_S_S2x4x256 (constant S_ .f32 0xFF800000#32))
        (Host.reduce FloatOps.maximumf s (constant S_ .f32 0xFF800000#32) reducesTo_S2x4x256x256_S2x4x256_d3 h_S_)))))
/-- The weights of the keys. -/
def weights (p : Vec F S2x4x256x256 .f32) : Vec F S2x4x256x256 .bf16 :=
  truncf .bf16 (Host.divf p (broadcastInDim S2x4x256x256 ![0, 1, 2, 3] bcast_S2x4x256x1_S2x4x256x256_0_1_2_3
    (broadcastInDim S2x4x256x1 ![0, 1, 2] bcast_S2x4x256_S2x4x256x1_0_1_2
      (Host.reduceAdd p (constant S_ .f32 0x00000000#32) reducesTo_S2x4x256x256_S2x4x256_d3 h_S_)))) bitsLt_bf16_f32
/-- The values mixed by the weights, the heads side by side. -/
def mixed (v : Vec F S2x256x4x64 .bf16) (w : Vec F S2x4x256x256 .bf16) : Vec F S2x256x256 .bf16 :=
  truncf .bf16 (shapeCast _ (transpose S2x256x4x64 [0, 3, 1, 2]
    (Host.dotGeneral dot_S2x256x4x64_S2x4x256x256_S2x4x64x256_1_3_3_2_02_01 none v w : Vec F S2x4x64x256 .f32)
    transposes_S2x4x64x256_S2x256x4x64_0_3_1_2) shapeCasts_S2x256x4x64_S2x256x256) bitsLt_bf16_f32
/-- The device's share of the output projection, cut into 32 chunks. -/
def project (y : Vec F S2x256x256 .bf16) (wo : Vec F S256x512 .bf16) : Vec F S32x64x128 .f32 :=
  shapeCast _ (Host.dotGeneral dot_S2x256x256_S256x512_S2x256x512_2_0_01_1_n_n none y wo : Vec F S2x256x512 .f32) shapeCasts_S2x256x512_S32x64x128
/-- The chunks put back side by side, widened. -/
def whole (z : Vec F S32x64x128 .bf16) : Vec F S2x256x512 .f32 :=
  extf .f32 (shapeCast _ z shapeCasts_S32x64x128_S2x256x512 : Vec F S2x256x512 .bf16) bitsLt_bf16_f32

variable (m : (ℓ : Loc nD τ sig) → Buf (Elt F) ℓ)

set_option maxRecDepth 8192 in
set_option maxHeartbeats 1000000 in
/-- After the scores' selection the program holds the scores of the device's queries against its keys. -/
theorem scores_eq (c : Dev nD) : V2 m c main_v23 = scores (queries (m ((c.tc : Thread nD τ).loc main_arg0)) (columns c (m ((c.tc : Thread nD τ).loc main_arg1))))
    (m ((c.tc : Thread nD τ).loc main_arg2)) := by
  unfold_abbrev_sides
  after_reads_simp
  simp only [StableHlo.TRef.toBuf, StableHlo.TRef.ofBuf, cast_eq]
  refine (congrArg (fun i => scores (queries (m ((c.tc : Thread nD τ).loc main_arg0)) (Host.dynamicSlice S512x256 (m ((c.tc : Thread nD τ).loc main_arg1)) i sliceFits_S512x8192_S512x256)) (m ((c.tc : Thread nD τ).loc main_arg2))) ?_)
  funext k
  fin_cases k
  · after_reads_simp
    rfl
  · after_reads_simp
    rfl

set_option maxRecDepth 8192 in
set_option maxHeartbeats 1000000 in
/-- The kernel's argument is the device's share of the projection of the mixed values. -/
theorem part_eq (c : Dev nD) : V3 m c main_v46 = project (mixed (m ((c.tc : Thread nD τ).loc main_arg3)) (weights (exps (V2 m c main_v23))))
    (rows c (m ((c.tc : Thread nD τ).loc main_arg4))) := by
  unfold_abbrev_sides
  after_reads_simp
  simp only [StableHlo.TRef.toBuf, StableHlo.TRef.ofBuf, cast_eq]
  refine (congrArg (fun i => project (mixed (m ((c.tc : Thread nD τ).loc main_arg3)) (weights (exps _)))
    (Host.dynamicSlice S256x512 (m ((c.tc : Thread nD τ).loc main_arg4)) i sliceFits_S8192x512_S256x512)) ?_)
  funext k
  fin_cases k
  · after_reads_simp
    rfl
  · after_reads_simp
    rfl

/-- The program's result is the kernel's, its chunks put back side by side and widened. -/
theorem result_eq (outs) (c : Dev nD) : V5 m outs c main_v49 = whole (V4 m outs c main_v47) := by
  unfold_abbrev_sides
  after_reads_simp
  rfl

/-- The word the program starts device `c`'s block at: the device's number times 256. -/
theorem start_word (c : Dev nD) :
    (Scalar.select (IntOp.cmpi .slt (IntOp.muli (IntOp.remui .host (IntOp.divui .host (BitVec.ofNat 32 c.1) 1#32) 32#32) 256#32) 0#32)
      (IntOp.addi (IntOp.muli (IntOp.remui .host (IntOp.divui .host (BitVec.ofNat 32 c.1) 1#32) 32#32) 256#32) 8192#32)
      (IntOp.muli (IntOp.remui .host (IntOp.divui .host (BitVec.ofNat 32 c.1) 1#32) 32#32) 256#32) : BitVec 32).toInt = 256 * c.1 := by
  revert c
  decide

/-- The device's block starts at 256 times its number. -/
theorem start_apply (c : Dev nD) (i : S_.Idx) : (start (F := F) c i).toInt = 256 * c.1 := by
  pointwise [start, index]
  exact start_word c
end

/-! ## The stages at an index -/

/-- Column `k` of the device's block of `Wq` is column `256 c + k` of the whole. -/
theorem columns_apply (c : Dev nD) (wq : Vec Ideal S512x8192 .bf16) (e : Fin 512) (k : Fin 256) :
    columns c wq (ix2 e k) = wq (ix2 e ⟨256 * c.1 + k.1, by have := c.2; have := k.2; simp only [nD] at *; omega⟩) := by
  unfold columns
  refine (congrFun (Host.dynamicSlice_eq_extractStridedSlice (s := S512x8192) S512x256 wq _ ![0, 256 * c.1] _ ⟨rfl, fun a => by
    have := c.2; fin_cases a <;> simp [nD] at * <;> omega⟩ ?_) _).trans ?_
  · intro a
    fin_cases a
    · rfl
    · exact start_apply (F := Ideal) c _
  · pointwise

/-- Row `k` of the device's block of `Wo` is row `256 c + k` of the whole. -/
theorem rows_apply (c : Dev nD) (wo : Vec Ideal S8192x512 .bf16) (k : Fin 256) (n : Fin 512) :
    rows c wo (ix2 k n) = wo (ix2 ⟨256 * c.1 + k.1, by have := c.2; have := k.2; simp only [nD] at *; omega⟩ n) := by
  unfold rows
  refine (congrFun (Host.dynamicSlice_eq_extractStridedSlice (s := S8192x512) S256x512 wo _ ![256 * c.1, 0] _ ⟨rfl, fun a => by
    have := c.2; fin_cases a <;> simp [nD] at * <;> omega⟩ ?_) _).trans ?_
  · intro a
    fin_cases a
    · exact start_apply (F := Ideal) c _
    · rfl
  · pointwise

/-- Chunk `r`'s element of the projection: a row of `y` against a column of `Wo`. -/
theorem project_apply (y : Vec Ideal S2x256x256 .bf16) (wo : Vec Ideal S256x512 .bf16) (r : Fin 32) (a : Fin 64) (b : Fin 128) :
    project y wo (ix3 r a b) = ∑ x : Fin 256, y (ix3 ⟨r.1 / 16, by omega⟩ ⟨r.1 % 16 * 16 + a.1 / 4, by omega⟩ x) * wo (ix2 x ⟨a.1 % 4 * 128 + b.1, by omega⟩) := by
  pointwise [project]

/-- Where the result's element is among the chunks. -/
theorem whole_apply (z : Vec Ideal S32x64x128 .bf16) (b : Fin 2) (i : Fin 256) (n : Fin 512) :
    whole z (ix3 b i n) = z (ix3 ⟨b.1 * 16 + i.1 / 16, by omega⟩ ⟨i.1 % 16 * 4 + n.1 / 128, by omega⟩ ⟨n.1 % 128, by omega⟩) := by
  pointwise [whole]

/-- A query is a row of `x` against a column of `Wq`. -/
theorem queries_apply (x : Vec Ideal S2x256x512 .bf16) (wq : Vec Ideal S512x256 .bf16) (b : Fin 2) (i : Fin 256) (h : Fin 4) (d : Fin 64) :
    queries x wq (ix4 b i h d) = ∑ e : Fin 512, x (ix3 b i e) * wq (ix2 e ⟨h.1 * 64 + d.1, by omega⟩) := by
  pointwise [queries]

/-- The scores of one head. -/
theorem scores_apply (q k : Vec Ideal S2x256x4x64 .bf16) (b : Fin 2) (h : Fin 4) (i j : Fin 256) :
    scores q k (ix4 b h i j) = Attention.score (fun d => q (ix4 b i h d)) (fun j d => k (ix4 b j h d)) i j := by
  pointwise [scores, near, Attention.score, Attention.near]
  rfl

/-- The exponentials of a row of scores; the extra maximum with minus infinity changes nothing. -/
theorem exps_apply (s : Vec Ideal S2x4x256x256 .f32) (b : Fin 2) (h : Fin 4) (i j : Fin 256) :
    exps s (ix4 b h i j) = Attention.exps (fun j => s (ix4 b h i j)) j := by
  pointwise [exps]
  exact congrArg (fun t => Ideal.exp (s (ix4 b h i j) - t)) (Attention.max_top fun x => s (ix4 b h i x))

/-- The weights of a row. -/
theorem weights_apply (s : Vec Ideal S2x4x256x256 .f32) (b : Fin 2) (h : Fin 4) (i j : Fin 256) :
    weights s (ix4 b h i j) = Attention.share (fun j => s (ix4 b h i j)) j := by
  pointwise [weights, Attention.share]

/-- The mixed values at column `k`: head `k / 64`, its column `k % 64`. -/
theorem mixed_apply (v : Vec Ideal S2x256x4x64 .bf16) (w : Vec Ideal S2x4x256x256 .bf16) (b : Fin 2) (i : Fin 256) (k : Fin 256) :
    mixed v w (ix3 b i k) = ∑ x : Fin 256, v (ix4 b x ⟨k.1 / 64, by omega⟩ ⟨k.1 % 64, by omega⟩) * w (ix4 b ⟨k.1 / 64, by omega⟩ i x) := by
  pointwise [mixed]

/-- A device's share of the projection, at chunk `r`, row `a`, column `b`: every column of the device's own
    heads, against its row of `Wo`. -/
theorem share_apply (c : Dev nD) (x : Vec Ideal S2x256x512 .bf16) (wq : Vec Ideal S512x8192 .bf16) (k v : Vec Ideal S2x256x4x64 .bf16)
    (wo : Vec Ideal S8192x512 .bf16) (r : Fin 32) (a : Fin 64) (b : Fin 128) :
    project (mixed v (weights (exps (scores (queries x (columns c wq)) k)))) (rows c wo) (ix3 r a b) = ∑ t : Fin 256,
      Attention.head (fun i d => ∑ e : Fin 512, x (ix3 ⟨r.1 / 16, by omega⟩ i e) * wq (ix2 e ⟨256 * c.1 + (t.1 / 64 * 64 + d.1), by have := c.2; simp only [nD] at *; omega⟩))
        (fun j d => k (ix4 ⟨r.1 / 16, by omega⟩ j ⟨t.1 / 64, by omega⟩ d)) (fun j d => v (ix4 ⟨r.1 / 16, by omega⟩ j ⟨t.1 / 64, by omega⟩ d))
        ⟨r.1 % 16 * 16 + a.1 / 4, by omega⟩ ⟨t.1 % 64, by omega⟩
      * wo (ix2 ⟨256 * c.1 + t.1, by have := c.2; simp only [nD] at *; omega⟩ ⟨a.1 % 4 * 128 + b.1, by omega⟩) := by
  simp only [project_apply, mixed_apply, weights_apply, exps_apply, scores_apply, queries_apply, columns_apply, rows_apply]
  rfl

end Cert.KernelIdeal.Attn
end
-- ==== Proof.KernelIdeal.Sum.lean ====
/- What the kernel leaves, over the extended reals: at each element the sum over the devices of their partial results. -/
module

public import proofs.«01_k».proof.Proof.KernelIdeal.Sched
public import Idealize.ShloMosaic.Lib.Pointwise

@[expose] public section

noncomputable section

namespace Cert.KernelIdeal.Ring32

open Cert.KernelIdeal Cert.KernelIdeal.Gen Idealize.ShloMosaic Idealize.ShloMosaic.TcCoe

/-- The device whose row a receiver holds at place `i` holds, the other way round, the receiver's at the same place. -/
theorem source_source (c : Dev nD) (i : Fin 32) : source c (source c i) = i := by revert c i; decide +kernel
/-- At place 0 the source is the receiver itself. -/
theorem source_zero (c : Dev nD) : source c 0 = c := by revert c; decide +kernel

/-- The places a receiver holds run over all the devices. -/
def sources (c : Dev nD) : Fin 32 ≃ Dev nD := ⟨source c, source c, source_source c, source_source c⟩

variable (P : Dev nD → Vec Ideal S32x64x128 .f32)

/-- Narrowing changes nothing over the extended reals. -/
theorem PB_ideal (c : Dev nD) (r : Fin 32) (a : Fin 64) (b : Fin 128) : PB P c (ix3 r a b) = P c (ix3 r a b) := by
  pointwise [PB, k0_pay1]

/-- Each element of the kernel's result is the sum over the devices of that element of their partial results. -/
theorem RS_apply (r : Fin 32) (a : Fin 64) (b : Fin 128) : RS P (ix3 r a b) = ∑ c : Dev nD, P c (ix3 r a b) := by
  have h0 (i : Fin 32) : atRow i (ix3 (0 : Fin 1) a b) = ix3 i a b := by
    funext d; fin_cases d <;> rfl
  have h1 : inRow (ix3 r a b) = ix3 (0 : Fin 1) a b := by funext d; fin_cases d <;> rfl
  have h2 (x : Fin 31) : RV P r (below (ix3 x a b)) = P (source r x.succ) (ix3 r a b) := by
    have e : inRow (below (ix3 x a b)) = ix3 (0 : Fin 1) a b := by funext d; fin_cases d <;> rfl
    have e' : rowOf (below (ix3 x a b)) = x.succ := Fin.ext (Nat.add_comm 1 x.1)
    unfold RV
    rw [e, e', h0, PB_ideal]
  have h3 : RS P (ix3 r a b) = P r (ix3 r a b) + ∑ x : Fin 31, P (source r x.succ) (ix3 r a b) := by
    unfold RS RED
    rw [h1, show rowOf (ix3 r a b) = r from rfl]
    pointwise [k0_pay2]
    simp only [h0, h2]
  rw [h3, ← Equiv.sum_comp (sources r)]
  refine Eq.trans ?_ (Fin.sum_univ_succ _).symm
  exact congrArg (· + _) (congrArg (fun c => P c (ix3 r a b)) (source_zero r)).symm

end Cert.KernelIdeal.Ring32

end
-- ==== Proof.Reference.Stages.lean ====
/- The reference's result as a chain of named stages, and each stage read at an index. -/
module

public import proofs.«01_k».proof.Proof.Gen.ReferenceIdeal.Run
public import Idealize.ShloMosaic.Lib.Pointwise
public import Idealize.ShloMosaic.Lib.Routing.OpsOrder
public import proofs.«01_k».proof.Proof.Attention

@[expose] public section

noncomputable section

namespace Cert.ReferenceIdeal.Attn

open Cert.ReferenceIdeal Cert.ReferenceIdeal.Gen Idealize.ShloMosaic Idealize.ShloMosaic.TcCoe

/-! ## The stages -/

section
variable {F : FTy → Type} [FloatOps F]

/-- Which keys a query attends to: those at most 128 places away. -/
def near : Vec F S256x256 .i1 :=
  cmpi .sle (absi (subi (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))))
    (broadcastInDim S256x256 ![] bcast_S_S256x256 (constantI S_ 32 128#32))
/-- The queries, one row per head. -/
def queries (x : Vec F S2x256x512 .bf16) (wq : Vec F S512x8192 .bf16) : Vec F S2x256x128x64 .f32 :=
  shapeCast _ (Host.dotGeneral dot_S2x256x512_S512x8192_S2x256x8192_2_0_01_1_n_n none (extf .f32 x bitsLt_bf16_f32) (extf .f32 wq bitsLt_bf16_f32))
    shapeCasts_S2x256x8192_S2x256x128x64
/-- The scaled scores, the far ones overwritten. -/
def scores (q : Vec F S2x256x128x64 .f32) (k : Vec F S2x256x128x64 .bf16) : Vec F S2x128x256x256 .f32 :=
  select (broadcastInDim S2x128x256x256 ![0, 1, 2, 3] bcast_S1x1x256x256_S2x128x256x256_0_1_2_3
      (broadcastInDim S1x1x256x256 ![2, 3] bcast_S256x256_S1x1x256x256_2_3 (near (F := F))))
    (mulf (Host.dotGeneral dot_S2x256x128x64_S2x256x128x64_S2x128x256x256_3_3_1_1_02_02 none q (extf .f32 k bitsLt_bf16_f32))
      (broadcastInDim S2x128x256x256 ![] bcast_S_S2x128x256x256 (constant S_ .f32 0x3E000000#32)))
    (broadcastInDim S2x128x256x256 ![] bcast_S_S2x128x256x256 (id (constant S_ .f32 0xCE6E6B28#32)))
/-- The exponentials of the scores less their row's largest. -/
def exps (s : Vec F S2x128x256x256 .f32) : Vec F S2x128x256x256 .f32 :=
  Host.exp (subf s (broadcastInDim S2x128x256x256 ![0, 1, 2, 3] bcast_S2x128x256x1_S2x128x256x256_0_1_2_3
    (broadcastInDim S2x128x256x1 ![0, 1, 2] bcast_S2x128x256_S2x128x256x1_0_1_2
      (Host.reduce FloatOps.maximumf s (constant S_ .f32 0xFF800000#32) reducesTo_S2x128x256x256_S2x128x256_d3 h_S_))))
/-- Which queries attend to any key. -/
def kept : Vec F S256 .i1 := Host.reduce IntOp.ori (near (F := F)) (constantI S_ 1 0#1) reducesTo_S256x256_S256_d1 h_S_
/-- The weights of the keys. -/
def weights (p : Vec F S2x128x256x256 .f32) : Vec F S2x128x256x256 .f32 :=
  select (broadcastInDim S2x128x256x256 ![0, 1, 2, 3] bcast_S1x1x256x1_S2x128x256x256_0_1_2_3 (broadcastInDim S1x1x256x1 ![2] bcast_S256_S1x1x256x1_2 (kept (F := F))))
    (Host.divf p (broadcastInDim S2x128x256x256 ![0, 1, 2, 3] bcast_S2x128x256x1_S2x128x256x256_0_1_2_3
      (select (broadcastInDim S2x128x256x1 ![0, 1, 2, 3] bcast_S1x1x256x1_S2x128x256x1_0_1_2_3 (broadcastInDim S1x1x256x1 ![2] bcast_S256_S1x1x256x1_2 (kept (F := F))))
        (broadcastInDim S2x128x256x1 ![0, 1, 2] bcast_S2x128x256_S2x128x256x1_0_1_2
          (Host.reduceAdd p (constant S_ .f32 0x00000000#32) reducesTo_S2x128x256x256_S2x128x256_d3 h_S_))
        (broadcastInDim S2x128x256x1 ![] bcast_S_S2x128x256x1 (id (constant S_ .f32 0x3F800000#32))))))
    (broadcastInDim S2x128x256x256 ![] bcast_S_S2x128x256x256 (id (constant S_ .f32 0x00000000#32)))
/-- The values mixed by the weights, the heads side by side. -/
def mixed (v : Vec F S2x256x128x64 .bf16) (w : Vec F S2x128x256x256 .f32) : Vec F S2x256x8192 .f32 :=
  shapeCast _ (transpose S2x256x128x64 [0, 3, 1, 2]
    (Host.dotGeneral dot_S2x256x128x64_S2x128x256x256_S2x128x64x256_1_3_3_2_02_01 none (extf .f32 v bitsLt_bf16_f32) w)
    transposes_S2x128x64x256_S2x256x128x64_0_3_1_2) shapeCasts_S2x256x128x64_S2x256x8192
/-- The output projection. -/
def project (y : Vec F S2x256x8192 .f32) (wo : Vec F S8192x512 .bf16) : Vec F S2x256x512 .f32 :=
  Host.dotGeneral dot_S2x256x8192_S8192x512_S2x256x512_2_0_01_1_n_n none y (extf .f32 wo bitsLt_bf16_f32)

set_option maxRecDepth 8192 in
/-- The reference's run leaves the chain of the stages in its result. -/
theorem result_eq (m : (ℓ : Loc nD τ sig) → Buf (Elt F) ℓ) (c : Dev nD) :
    Value.res_main_v39 m c = project (mixed (m ((c.tc : Thread nD τ).loc main_arg3)) (weights (exps (scores
      (queries (m ((c.tc : Thread nD τ).loc main_arg0)) (m ((c.tc : Thread nD τ).loc main_arg1))) (m ((c.tc : Thread nD τ).loc main_arg2))))))
      (m ((c.tc : Thread nD τ).loc main_arg4)) := by
  unfold Value.res_main_v39 project mixed weights kept exps scores queries near
  rfl
end

/-! ## The stages at an index -/

/-- An element of the projection: a row of `y` against a column of `Wo`. -/
theorem project_apply (y : Vec Ideal S2x256x8192 .f32) (wo : Vec Ideal S8192x512 .bf16) (b : Fin 2) (i : Fin 256) (n : Fin 512) :
    project y wo (ix3 b i n) = ∑ x : Fin 8192, y (ix3 b i x) * wo (ix2 x n) := by
  pointwise [project]

/-- A query is a row of `x` against a column of `Wq`. -/
theorem queries_apply (x : Vec Ideal S2x256x512 .bf16) (wq : Vec Ideal S512x8192 .bf16) (b : Fin 2) (i : Fin 256) (h : Fin 128) (d : Fin 64) :
    queries x wq (ix4 b i h d) = ∑ e : Fin 512, x (ix3 b i e) * wq (ix2 e ⟨h.1 * 64 + d.1, by omega⟩) := by
  pointwise [queries]

/-- The scores of one head. -/
theorem scores_apply (q : Vec Ideal S2x256x128x64 .f32) (k : Vec Ideal S2x256x128x64 .bf16) (b : Fin 2) (h : Fin 128) (i j : Fin 256) :
    scores q k (ix4 b h i j) = Attention.score (fun d => q (ix4 b i h d)) (fun j d => k (ix4 b j h d)) i j := by
  pointwise [scores, near, Attention.score, Attention.near]
  rfl

/-- The exponentials of a row of scores. -/
theorem exps_apply (s : Vec Ideal S2x128x256x256 .f32) (b : Fin 2) (h : Fin 128) (i j : Fin 256) :
    exps s (ix4 b h i j) = Attention.exps (fun j => s (ix4 b h i j)) j := by
  pointwise [exps]
  rfl

/-- Every query attends to some key. -/
theorem kept_apply (i : Fin 256) : kept (F := Ideal) (ix1 i) = 1#1 := by
  pointwise [kept, near]
  exact (Routing.fold_ori _ _).2 ⟨i, Finset.mem_univ _, Attention.near_self i⟩

/-- The weights of a row: as every query attends to some key, both selections take the first branch. -/
theorem weights_apply (s : Vec Ideal S2x128x256x256 .f32) (b : Fin 2) (h : Fin 128) (i j : Fin 256) :
    weights s (ix4 b h i j) = Attention.share (fun j => s (ix4 b h i j)) j := by
  pointwise [weights, Attention.share]
  rw [kept_apply]
  rfl

/-- The mixed values at column `k`: head `k / 64`, its column `k % 64`. -/
theorem mixed_apply (v : Vec Ideal S2x256x128x64 .bf16) (w : Vec Ideal S2x128x256x256 .f32) (b : Fin 2) (i : Fin 256) (k : Fin 8192) :
    mixed v w (ix3 b i k) = ∑ x : Fin 256, v (ix4 b x ⟨k.1 / 64, by omega⟩ ⟨k.1 % 64, by omega⟩) * w (ix4 b ⟨k.1 / 64, by omega⟩ i x) := by
  pointwise [mixed]

/-- The reference's result: every column of every head, against its row of `Wo`. -/
theorem whole_apply (x : Vec Ideal S2x256x512 .bf16) (wq : Vec Ideal S512x8192 .bf16) (k v : Vec Ideal S2x256x128x64 .bf16)
    (wo : Vec Ideal S8192x512 .bf16) (b : Fin 2) (i : Fin 256) (n : Fin 512) :
    project (mixed v (weights (exps (scores (queries x wq) k)))) wo (ix3 b i n) = ∑ c : Fin 8192,
      Attention.head (fun i d => ∑ e : Fin 512, x (ix3 b i e) * wq (ix2 e ⟨c.1 / 64 * 64 + d.1, by omega⟩))
        (fun j d => k (ix4 b j ⟨c.1 / 64, by omega⟩ d)) (fun j d => v (ix4 b j ⟨c.1 / 64, by omega⟩ d)) i ⟨c.1 % 64, by omega⟩ * wo (ix2 c n) := by
  simp only [project_apply, mixed_apply, weights_apply, exps_apply, scores_apply, queries_apply]
  rfl

end Cert.ReferenceIdeal.Attn

end
-- ==== Proof.Equation.lean ====
/- The equation: the sum over the devices of their shares of the projection is the reference's projection. -/
module

public import proofs.«01_k».proof.Proof.KernelIdeal.Stages
public import proofs.«01_k».proof.Proof.KernelIdeal.Sum
public import proofs.«01_k».proof.Proof.Reference.Stages
public import Idealize.ShloMosaic.Lib.Layout

@[expose] public section

noncomputable section

namespace Cert.Equation

open Idealize.ShloMosaic Idealize.ShloMosaic.TcCoe

local notation "Heads" => (⟨4, ![2, 256, 4, 64]⟩ : Shape)
local notation "AllHeads" => (⟨4, ![2, 256, 128, 64]⟩ : Shape)

/-- Head `h` of device `c`'s block is head `4 c + h` of the whole. -/
theorem block_head (X : Vec Ideal AllHeads .bf16) (hT : Layout.Tiles Heads AllHeads 2 32) (c : Fin 32) (b : Fin 2) (j : Fin 256) (h : Fin 4) (d : Fin 64) :
    Layout.block Heads AllHeads 2 32 c X hT (ix4 b j h d) = X (ix4 b j ⟨c.1 * 4 + h.1, by omega⟩ d) := by
  rw [Layout.block_apply]
  congr 1
  funext a
  fin_cases a <;> rfl

/-- The 8192 columns are 32 blocks of 256. -/
theorem sum_blocks (f : Fin 8192 → EReal) : ∑ k, f k = ∑ c : Fin 32, ∑ t : Fin 256, f ⟨256 * c.1 + t.1, by omega⟩ := by
  rw [Fin.sum_univ_tiles 32 256 rfl f]
  simp only [Nat.mul_comm]

/-- Column `t` of device `c`'s heads is column `256 c + t` of all the heads: the two programs' terms are the same. -/
theorem column_eq (x : Vec Ideal ⟨3, ![2, 256, 512]⟩ .bf16) (wq : Vec Ideal ⟨2, ![512, 8192]⟩ .bf16) (K V : Vec Ideal AllHeads .bf16)
    (hT : Layout.Tiles Heads AllHeads 2 32) (wo : Vec Ideal ⟨2, ![8192, 512]⟩ .bf16) (c : Fin 32) (t : Fin 256) (b : Fin 2) (i : Fin 256) (n : Fin 512) :
    Attention.head (fun i' d => ∑ e : Fin 512, x (ix3 ⟨(b.1 * 16 + i.1 / 16) / 16, by omega⟩ i' e) * wq (ix2 e ⟨256 * c.1 + (t.1 / 64 * 64 + d.1), by omega⟩))
        (fun j d => Layout.block Heads AllHeads 2 32 c K hT (ix4 ⟨(b.1 * 16 + i.1 / 16) / 16, by omega⟩ j ⟨t.1 / 64, by omega⟩ d))
        (fun j d => Layout.block Heads AllHeads 2 32 c V hT (ix4 ⟨(b.1 * 16 + i.1 / 16) / 16, by omega⟩ j ⟨t.1 / 64, by omega⟩ d))
        ⟨(b.1 * 16 + i.1 / 16) % 16 * 16 + (i.1 % 16 * 4 + n.1 / 128) / 4, by omega⟩ ⟨t.1 % 64, by omega⟩
      * wo (ix2 ⟨256 * c.1 + t.1, by omega⟩ ⟨(i.1 % 16 * 4 + n.1 / 128) % 4 * 128 + n.1 % 128, by omega⟩)
    = Attention.head (fun i' d => ∑ e : Fin 512, x (ix3 b i' e) * wq (ix2 e ⟨(256 * c.1 + t.1) / 64 * 64 + d.1, by omega⟩))
        (fun j d => K (ix4 b j ⟨(256 * c.1 + t.1) / 64, by omega⟩ d)) (fun j d => V (ix4 b j ⟨(256 * c.1 + t.1) / 64, by omega⟩ d))
        i ⟨(256 * c.1 + t.1) % 64, by omega⟩ * wo (ix2 ⟨256 * c.1 + t.1, by omega⟩ n) := by
  have hb : (⟨(b.1 * 16 + i.1 / 16) / 16, by omega⟩ : Fin 2) = b := Fin.ext (by simp only; omega)
  have hi : (⟨(b.1 * 16 + i.1 / 16) % 16 * 16 + (i.1 % 16 * 4 + n.1 / 128) / 4, by omega⟩ : Fin 256) = i := Fin.ext (by simp only; omega)
  have hn : (⟨(i.1 % 16 * 4 + n.1 / 128) % 4 * 128 + n.1 % 128, by omega⟩ : Fin 512) = n := Fin.ext (by simp only; omega)
  have hq (d : Fin 64) : (⟨256 * c.1 + (t.1 / 64 * 64 + d.1), by omega⟩ : Fin 8192) = ⟨(256 * c.1 + t.1) / 64 * 64 + d.1, by omega⟩ := Fin.ext (by simp only; omega)
  have hh : (⟨c.1 * 4 + t.1 / 64, by omega⟩ : Fin 128) = ⟨(256 * c.1 + t.1) / 64, by omega⟩ := Fin.ext (by simp only; omega)
  have hd : (⟨t.1 % 64, by omega⟩ : Fin 64) = ⟨(256 * c.1 + t.1) % 64, by omega⟩ := Fin.ext (by simp only; omega)
  have hk (X : Vec Ideal AllHeads .bf16) : (fun j d => Layout.block Heads AllHeads 2 32 c X hT (ix4 b j ⟨t.1 / 64, by omega⟩ d))
      = fun j d => X (ix4 b j ⟨(256 * c.1 + t.1) / 64, by omega⟩ d) := by
    funext j d
    rw [block_head, hh]
  simp only [hb, hi, hn, hq, hd]
  rw [hk, hk]

open Cert.KernelIdeal Cert.KernelIdeal.Gen Cert.KernelIdeal.Ring32 in
/-- On arguments laid out as the two programs take them, the kernel's result is the reference's. -/
theorem result_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hT : Layout.Tiles Heads AllHeads 2 32)
    (h : ∀ c : Dev Cert.KernelIdeal.nD,
      m ((c.tc : Thread nD τ).loc main_arg0) = m' (((0 : Dev Cert.ReferenceIdeal.nD).tc : Thread Cert.ReferenceIdeal.nD Cert.ReferenceIdeal.τ).loc Cert.ReferenceIdeal.main_arg0)
      ∧ m ((c.tc : Thread nD τ).loc main_arg1) = m' (((0 : Dev Cert.ReferenceIdeal.nD).tc : Thread Cert.ReferenceIdeal.nD Cert.ReferenceIdeal.τ).loc Cert.ReferenceIdeal.main_arg1)
      ∧ m ((c.tc : Thread nD τ).loc main_arg2) = Layout.block Heads AllHeads 2 32 c (m' (((0 : Dev Cert.ReferenceIdeal.nD).tc : Thread Cert.ReferenceIdeal.nD Cert.ReferenceIdeal.τ).loc Cert.ReferenceIdeal.main_arg2)) hT
      ∧ m ((c.tc : Thread nD τ).loc main_arg3) = Layout.block Heads AllHeads 2 32 c (m' (((0 : Dev Cert.ReferenceIdeal.nD).tc : Thread Cert.ReferenceIdeal.nD Cert.ReferenceIdeal.τ).loc Cert.ReferenceIdeal.main_arg3)) hT
      ∧ m ((c.tc : Thread nD τ).loc main_arg4) = m' (((0 : Dev Cert.ReferenceIdeal.nD).tc : Thread Cert.ReferenceIdeal.nD Cert.ReferenceIdeal.τ).loc Cert.ReferenceIdeal.main_arg4))
    (outs) (c : Dev Cert.KernelIdeal.nD) (ho : V4 m outs c main_v47 = RS (fun c => V3 m c main_v46)) :
    V5 m outs c main_v49 = Cert.ReferenceIdeal.Value.res_main_v39 m' 0 := by
  rw [Attn.result_eq, ho, Cert.ReferenceIdeal.Attn.result_eq]
  funext y
  idx_vars y
  rw [Attn.whole_apply, RS_apply, Cert.ReferenceIdeal.Attn.whole_apply, sum_blocks]
  refine Finset.sum_congr rfl fun c _ => ?_
  obtain ⟨h0, h1, h2, h3, h4⟩ := h c
  rw [Attn.part_eq, Attn.scores_eq, h0, h1, h2, h3, h4, Attn.share_apply]
  exact Finset.sum_congr rfl fun t _ => column_eq _ _ _ _ hT _ c t _ _ _

end Cert.Equation

end
-- ==== Proof.Algebraic.lean ====
/- Over the extended reals the kernel and the reference leave the same result. -/
module

public import proofs.«01_k».proof.Proof.Frames
public import proofs.«01_k».proof.Proof.Equation

@[expose] public section

noncomputable section

namespace Cert.Proof

open Idealize.ShloMosaic Idealize.SL.Sem

/-- Every device of the kernel's run ends with the reference's result, and both runs leave their arguments as they were. -/
theorem algebraic : Cert.algebraic_KernelIdeal_ReferenceIdeal := fun m g m' g' _ hagree =>
  ⟨Cert.ReferenceIdeal.Value.res_main_v39 m' 0,
    θ_run_mono (Cert.KernelIdeal.Ring32.run_main (F := Ideal) m g) fun _ h c =>
      ⟨((h.1 c).1).trans (Cert.Equation.result_same m m' _ hagree _ c (Cert.KernelIdeal.Ring32.V4_out m c)), (h.1 c).2⟩,
    θ_run_mono (Cert.ReferenceIdeal.Value.run (F := Ideal) m' g') fun _ h => h 0⟩

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- All five claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
